-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_untied [hPre_untied : Cert.Pre_untied.Facts] (m : (ℓ : Loc Cert.KernelIdeal.nD Cert.KernelIdeal.τ Cert.KernelIdeal.sig) → Buf (Elt Ideal) ℓ) : Prop :=
  ∀ c : Dev Cert.KernelIdeal.nD,
    (Cert.Pre_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_untied [hPre_untied : Cert.Pre_untied.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_untied [hKernelIdeal : Cert.KernelIdeal.Facts] [hPre_untied : Cert.Pre_untied.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_untied m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_untied [hReferenceIdeal : Cert.ReferenceIdeal.Facts] [hPre_untied : Cert.Pre_untied.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_untied m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "eps_sq" .f32 0x2B8CBCCC#32 ((77371252064649 / 77371252455336267181195264 : ℝ) : EReal)

def algebraic_KernelIdeal_ReferenceIdeal_pre_untied [hKernelIdeal : Cert.KernelIdeal.Facts] [hReferenceIdeal : Cert.ReferenceIdeal.Facts] [hPre_untied : Cert.Pre_untied.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_untied m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)) (v1 : (c : Dev Cert.KernelIdeal.nD) → Buf (Elt Ideal) ((c.tc : Thread Cert.KernelIdeal.nD Cert.KernelIdeal.τ).loc Cert.KernelIdeal.main_cst)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_cst) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_cst_6) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_untied : Cert.Pre_untied.Facts),
    quiescent_Kernel (hKernel := hKernel)
    ∧ quiescent_KernelIdeal (hKernelIdeal := hKernelIdeal)
    ∧ quiescent_KernelIdeal_pre_untied (hKernelIdeal := hKernelIdeal) (hPre_untied := hPre_untied)
    ∧ quiescent_ReferenceIdeal (hReferenceIdeal := hReferenceIdeal)
    ∧ quiescent_ReferenceIdeal_pre_untied (hReferenceIdeal := hReferenceIdeal) (hPre_untied := hPre_untied)
    ∧ preserves_Kernel_KernelIdeal
    ∧ algebraic_KernelIdeal_ReferenceIdeal_pre_untied (hKernelIdeal := hKernelIdeal) (hReferenceIdeal := hReferenceIdeal) (hPre_untied := hPre_untied)
-- ==== Pre_untied.lean ====
abbrev S2x2048x768 : Shape := ⟨3, ![2, 2048, 768]⟩
abbrev S2x12x2048x64 : Shape := ⟨4, ![2, 12, 2048, 64]⟩
abbrev S12 : Shape := ⟨1, ![12]⟩
abbrev S12x4096x64 : Shape := ⟨3, ![12, 4096, 64]⟩
abbrev S12x2x2048x64 : Shape := ⟨4, ![12, 2, 2048, 64]⟩
abbrev S_ : Shape := ⟨0, ![]⟩
abbrev S12x4096 : Shape := ⟨2, ![12, 4096]⟩
abbrev S12x4096x1 : Shape := ⟨3, ![12, 4096, 1]⟩
abbrev S12x4096x4096 : Shape := ⟨3, ![12, 4096, 4096]⟩
abbrev S12x4096x13 : Shape := ⟨3, ![12, 4096, 13]⟩
abbrev S12x4096x12 : Shape := ⟨3, ![12, 4096, 12]⟩

class Facts : Prop where
  transposes_S2x12x2048x64_S12x2x2048x64_1_0_2_3 : S2x12x2048x64.Transposes [1, 0, 2, 3] S12x2x2048x64
  shapeCasts_S12x2x2048x64_S12x4096x64 : S12x2x2048x64.ShapeCasts S12x4096x64
  reducesTo_S12x4096x64_S12x4096_d2 : S12x4096x64.ReducesTo [2] S12x4096
  h_S_ : 0 < S_.numel
  bcast_S12x4096_S12x4096x1_0_1 : S12x4096.BroadcastsInDim S12x4096x1 (![0, 1] : Fin 2 → Fin S12x4096x1.rank)
  bcast_S_S12x4096x1 : S_.BroadcastsInDim S12x4096x1 (![] : Fin 0 → Fin S12x4096x1.rank)
  bcast_S12x4096x1_S12x4096x64_0_1_2 : S12x4096x1.BroadcastsInDim S12x4096x64 (![0, 1, 2] : Fin 3 → Fin S12x4096x64.rank)
  sliceFits_S12x4096x4096_S12x4096x13 : S12x4096x4096.Slices (fun _ => 0) S12x4096x13
  slices_S12x4096x13_S12x4096x12_0_0_0 : S12x4096x13.Slices ![0, 0, 0] S12x4096x12
  slices_S12x4096x13_S12x4096x12_0_0_1 : S12x4096x13.Slices ![0, 0, 1] S12x4096x12
  dot_S12x4096x64_S12x4096x64_S12x4096x4096_2_2_1_1_0_0_wf : DotDims.WF S12x4096x64 S12x4096x64 S12x4096x4096 [2] [2] [1] [1] [0] [0]

variable [Facts]

def dot_S12x4096x64_S12x4096x64_S12x4096x4096_2_2_1_1_0_0 : DotDims S12x4096x64 S12x4096x64 S12x4096x4096 where
  lhsContracting := [2]
  rhsContracting := [2]
  lhsNonContracting := [1]
  rhsNonContracting := [1]
  lhsBatch := [0]
  rhsBatch := [0]
  wf := dot_S12x4096x64_S12x4096x64_S12x4096x4096_2_2_1_1_0_0_wf
def fn_norm {F : FTy → Type} [FloatOps F] (arg0 : FVec F S12x4096x64 .f32) : FVec F S12x4096x1 .f32 :=
  let v0 : FVec F S12x4096x64 .f32 := mulf arg0 arg0
  let cst : FVec F S_ .f32 := constant S_ .f32 0x00000000#32
  let v1 : FVec F S12x4096 .f32 := (fun x v => Host.reduceAdd x v reducesTo_S12x4096x64_S12x4096_d2 h_S_) v0 cst
  let v2 : FVec F S12x4096x1 .f32 := broadcastInDim S12x4096x1 ![0, 1] bcast_S12x4096_S12x4096x1_0_1 v1
  let v3 : FVec F S12x4096x1 .f32 := Host.sqrt v2
  v3

def fn_norm_0 {F : FTy → Type} [FloatOps F] (arg0 : FVec F S12x4096x64 .f32) : FVec F S12x4096x1 .f32 :=
  let v0 : FVec F S12x4096x64 .f32 := mulf arg0 arg0
  let cst : FVec F S_ .f32 := constant S_ .f32 0x00000000#32
  let v1 : FVec F S12x4096 .f32 := (fun x v => Host.reduceAdd x v reducesTo_S12x4096x64_S12x4096_d2 h_S_) v0 cst
  let v2 : FVec F S12x4096x1 .f32 := broadcastInDim S12x4096x1 ![0, 1] bcast_S12x4096_S12x4096x1_0_1 v1
  let v3 : FVec F S12x4096x1 .f32 := Host.sqrt v2
  v3

def fn {F : FTy → Type} [FloatOps F] (main_arg0 : FVec F S2x2048x768 .f32) (main_arg1 : FVec F S2x12x2048x64 .f32) (main_arg2 : FVec F S2x12x2048x64 .f32) (main_arg3 : FVec F S2x12x2048x64 .f32) (main_arg4 : FVec F S2x12x2048x64 .f32) (main_arg5 : FVec F S12 .f32) (main_arg6 : FVec F S12x4096x64 .f32) (main_arg7 : FVec F S12x4096x64 .f32) : IVec S12x4096x12 1 :=
  let main_v0 : FVec F S12x2x2048x64 .f32 := (transpose S12x2x2048x64 [1, 0, 2, 3] · transposes_S2x12x2048x64_S12x2x2048x64_1_0_2_3) main_arg1
  let main_v1 : FVec F S12x4096x64 .f32 := shapeCast S12x4096x64 main_v0 shapeCasts_S12x2x2048x64_S12x4096x64
  let main_v2 : FVec F S12x4096x1 .f32 := fn_norm (F := F) main_v1
  let main_cst : FVec F S_ .f32 := constant S_ .f32 0x358637BD#32
  let main_v3 : FVec F S12x4096x1 .f32 := broadcastInDim S12x4096x1 ![] bcast_S_S12x4096x1 main_cst
  let main_v4 : FVec F S12x4096x1 .f32 := maximumf main_v2 main_v3
  let main_v5 : FVec F S12x4096x64 .f32 := broadcastInDim S12x4096x64 ![0, 1, 2] bcast_S12x4096x1_S12x4096x64_0_1_2 main_v4
  let main_v6 : FVec F S12x4096x64 .f32 := Host.divf main_v1 main_v5
  let main_v7 : FVec F S12x4096x1 .f32 := fn_norm_0 (F := F) main_arg6
  let main_cst_0 : FVec F S_ .f32 := constant S_ .f32 0x358637BD#32
  let main_v8 : FVec F S12x4096x1 .f32 := broadcastInDim S12x4096x1 ![] bcast_S_S12x4096x1 main_cst_0
  let main_v9 : FVec F S12x4096x1 .f32 := maximumf main_v7 main_v8
  let main_v10 : FVec F S12x4096x64 .f32 := broadcastInDim S12x4096x64 ![0, 1, 2] bcast_S12x4096x1_S12x4096x64_0_1_2 main_v9
  let main_v11 : FVec F S12x4096x64 .f32 := Host.divf main_arg6 main_v10
  let main_v12 : FVec F S12x4096x4096 .f32 := (fun l r => Host.dotGeneral dot_S12x4096x64_S12x4096x64_S12x4096x4096_2_2_1_1_0_0 none l r) main_v6 main_v11
  let main_values : FVec F S12x4096x13 .f32 := (fun x => (Host.topK S12x4096x13 2 (FloatOps.cmpfTotal .gt) x sliceFits_S12x4096x4096_S12x4096x13).1) main_v12
  let main_indices : IVec S12x4096x13 32 := (fun x => (Host.topK S12x4096x13 2 (FloatOps.cmpfTotal .gt) x sliceFits_S12x4096x4096_S12x4096x13).2) main_v12
  let main_v13 : FVec F S12x4096x12 .f32 := (extractStridedSlice S12x4096x12 ![0, 0, 0] · slices_S12x4096x13_S12x4096x12_0_0_0) main_values
  let main_v14 : FVec F S12x4096x12 .f32 := (extractStridedSlice S12x4096x12 ![0, 0, 1] · slices_S12x4096x13_S12x4096x12_0_0_1) main_values
  let main_v15 : IVec S12x4096x12 1 := cmpf .ogt main_v13 main_v14
  main_v15
-- ==== Kernel.lean ====
abbrev S2x2048x768 : Shape := ⟨3, ![2, 2048, 768]⟩
abbrev S2x12x2048x64 : Shape := ⟨4, ![2, 12, 2048, 64]⟩
abbrev S12 : Shape := ⟨1, ![12]⟩
abbrev S12x4096x64 : Shape := ⟨3, ![12, 4096, 64]⟩
abbrev S12x2x2048x64 : Shape := ⟨4, ![12, 2, 2048, 64]⟩
abbrev S12x1 : Shape := ⟨2, ![12, 1]⟩
abbrev S1x512x64 : Shape := ⟨3, ![1, 512, 64]⟩
abbrev S1x4096x64 : Shape := ⟨3, ![1, 4096, 64]⟩
abbrev S4096x64 : Shape := ⟨2, ![4096, 64]⟩
abbrev S4096 : Shape := ⟨1, ![4096]⟩
abbrev S4096x1 : Shape := ⟨2, ![4096, 1]⟩
abbrev S512x64 : Shape := ⟨2, ![512, 64]⟩
abbrev S512 : Shape := ⟨1, ![512]⟩
abbrev S512x1 : Shape := ⟨2, ![512, 1]⟩
abbrev S512x4096 : Shape := ⟨2, ![512, 4096]⟩
abbrev S512x128 : Shape := ⟨2, ![512, 128]⟩
abbrev S512x512 : Shape := ⟨2, ![512, 512]⟩
abbrev S1x1 : Shape := ⟨2, ![1, 1]⟩
abbrev S_ : Shape := ⟨0, ![]⟩

abbrev nBuf : Space → Nat
  | .hbm => 15
  | .vmem => 11
  | .smem => 1
  | _ => 0

abbrev bufTy : (tb : Table) → Fin (tcTables nBuf tb) → BufTy
  | .hbm, ⟨0, _⟩ => ⟨S2x2048x768, .f32⟩
  | .hbm, ⟨1, _⟩ => ⟨S2x12x2048x64, .f32⟩
  | .hbm, ⟨2, _⟩ => ⟨S2x12x2048x64, .f32⟩
  | .hbm, ⟨3, _⟩ => ⟨S2x12x2048x64, .f32⟩
  | .hbm, ⟨4, _⟩ => ⟨S2x12x2048x64, .f32⟩
  | .hbm, ⟨5, _⟩ => ⟨S12, .f32⟩
  | .hbm, ⟨6, _⟩ => ⟨S12x4096x64, .f32⟩
  | .hbm, ⟨7, _⟩ => ⟨S12x4096x64, .f32⟩
  | .hbm, ⟨8, _⟩ => ⟨S12x2x2048x64, .f32⟩
  | .hbm, ⟨9, _⟩ => ⟨S12x4096x64, .f32⟩
  | .hbm, ⟨10, _⟩ => ⟨S12x4096x64, .f32⟩
  | .hbm, ⟨11, _⟩ => ⟨S12x1, .f32⟩
  | .hbm, ⟨12, _⟩ => ⟨S12x4096x64, .f32⟩
  | .hbm, ⟨13, _⟩ => ⟨S2x12x2048x64, .f32⟩
  | .hbm, ⟨14, _⟩ => ⟨S_, .f32⟩
  | .local _ .vmem, ⟨0, _⟩ => ⟨S1x512x64, .f32⟩
  | .local _ .vmem, ⟨1, _⟩ => ⟨S1x512x64, .f32⟩
  | .local _ .vmem, ⟨2, _⟩ => ⟨S1x4096x64, .f32⟩
  | .local _ .vmem, ⟨3, _⟩ => ⟨S1x4096x64, .f32⟩
  | .local _ .vmem, ⟨4, _⟩ => ⟨S1x4096x64, .f32⟩
  | .local _ .vmem, ⟨5, _⟩ => ⟨S1x4096x64, .f32⟩
  | .local _ .vmem, ⟨6, _⟩ => ⟨S1x512x64, .f32⟩
  | .local _ .vmem, ⟨7, _⟩ => ⟨S1x512x64, .f32⟩
  | .local _ .vmem, ⟨8, _⟩ => ⟨S1x512x64, .f32⟩
  | .local _ .vmem, ⟨9, _⟩ => ⟨S1x512x64, .f32⟩
  | .local _ .vmem, ⟨10, _⟩ => ⟨S4096x64, .f32⟩
  | .local _ .smem, ⟨0, _⟩ => ⟨S12x1, .f32⟩
  | _, _ => ⟨S2x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v0 : Ref sig .tc := ⟨.hbm, 13, rfl⟩
abbrev main_cst : Ref sig .tc := ⟨.hbm, 14, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![12, 8], ![false, false]⟩

def k0_off1 (i : grid0.Coords) : Fin 2 → Nat :=
  let arg0 : BitVec 32 := BitVec.ofNat 32 (i 0).val
  let c2_i32 : BitVec 32 := 2#32
  let v977 : BitVec 32 := Scalar.muli arg0 c2_i32
  let arg1 : BitVec 32 := BitVec.ofNat 32 (i 1).val
  let c512_i32 : BitVec 32 := 512#32
  let v978 : BitVec 32 := Scalar.muli arg1 c512_i32
  let c0_i32_109 : BitVec 32 := 0#32
  let v980 : BitVec 1 := Scalar.cmpi .sgt v978 c0_i32_109
  let v981 : BitVec 32 := Scalar.extui v980
  let c0_i32_110 : BitVec 32 := 0#32
  let v982 : BitVec 1 := Scalar.cmpi .slt v978 c0_i32_110
  let v983 : BitVec 32 := Scalar.extui v982
  let v984 : BitVec 32 := Scalar.subi v981 v983
  let c2048_i32 : BitVec 32 := 2048#32
  let c0_i32_111 : BitVec 32 := 0#32
  let v985 : BitVec 1 := Scalar.cmpi .sgt c2048_i32 c0_i32_111
  let v986 : BitVec 32 := Scalar.extui v985
  let c0_i32_112 : BitVec 32 := 0#32
  let v987 : BitVec 1 := Scalar.cmpi .slt c2048_i32 c0_i32_112
  let v988 : BitVec 32 := Scalar.extui v987
  let v989 : BitVec 32 := Scalar.subi v986 v988
  let v990 : BitVec 1 := Scalar.cmpi .ne v984 v989
  let v991 : BitVec 32 := Scalar.remsi v978 c2048_i32
  let c0_i32_113 : BitVec 32 := 0#32
  let v992 : BitVec 1 := Scalar.cmpi .ne v991 c0_i32_113
  let v993 : BitVec 1 := Scalar.andi v990 v992
  let v979 : BitVec 32 := Scalar.divsi v978 c2048_i32
  let c1_i32 : BitVec 32 := 1#32
  let v994 : BitVec 32 := Scalar.subi v979 c1_i32
  let v995 : BitVec 32 := Scalar.select v993 v994 v979
  let v996 : BitVec 32 := Scalar.addi v977 v995
  let c12_i32 : BitVec 32 := 12#32
  let v997 : BitVec 32 := Scalar.remsi v996 c12_i32
  let v998 : Index := Scalar.indexCast v997
  let c0_114 : Index := 0#32
  ![v998.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S12x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x512x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x4096x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "eps_sq" => some ((77371252064649 / 77371252455336267181195264 : ℝ) : EReal)
  | _ => none
-- ==== ReferenceIdeal.lean ====
abbrev S2x2048x768 : Shape := ⟨3, ![2, 2048, 768]⟩
abbrev S2x12x2048x64 : Shape := ⟨4, ![2, 12, 2048, 64]⟩
abbrev S12 : Shape := ⟨1, ![12]⟩
abbrev S12x4096x64 : Shape := ⟨3, ![12, 4096, 64]⟩
abbrev S12x2x2048x64 : Shape := ⟨4, ![12, 2, 2048, 64]⟩
abbrev S_ : Shape := ⟨0, ![]⟩
abbrev S12x4096 : Shape := ⟨2, ![12, 4096]⟩
abbrev S12x4096x1 : Shape := ⟨3, ![12, 4096, 1]⟩
abbrev S12x4096x4096 : Shape := ⟨3, ![12, 4096, 4096]⟩
abbrev S12x4096x12 : Shape := ⟨3, ![12, 4096, 12]⟩
abbrev S12x4096x12x1 : Shape := ⟨4, ![12, 4096, 12, 1]⟩
abbrev S12x4096x12x64 : Shape := ⟨4, ![12, 4096, 12, 64]⟩
abbrev S1x12x1x1 : Shape := ⟨4, ![1, 12, 1, 1]⟩

abbrev nBuf : Space → Nat
  | .hbm => 66
  | .vmem => 0
  | .smem => 0
  | _ => 0

abbrev bufTy : (tb : Table) → Fin (tcTables nBuf tb) → BufTy
  | .hbm, ⟨0, _⟩ => ⟨S2x2048x768, .f32⟩
  | .hbm, ⟨1, _⟩ => ⟨S2x12x2048x64, .f32⟩
  | .hbm, ⟨2, _⟩ => ⟨S2x12x2048x64, .f32⟩
  | .hbm, ⟨3, _⟩ => ⟨S2x12x2048x64, .f32⟩
  | .hbm, ⟨4, _⟩ => ⟨S2x12x2048x64, .f32⟩
  | .hbm, ⟨5, _⟩ => ⟨S12, .f32⟩
  | .hbm, ⟨6, _⟩ => ⟨S12x4096x64, .f32⟩
  | .hbm, ⟨7, _⟩ => ⟨S12x4096x64, .f32⟩
  | .hbm, ⟨8, _⟩ => ⟨S12x2x2048x64, .f32⟩
  | .hbm, ⟨9, _⟩ => ⟨S12x4096x64, .f32⟩
  | .hbm, ⟨10, _⟩ => ⟨S12x4096x64, .f32⟩
  | .hbm, ⟨11, _⟩ => ⟨S_, .f32⟩
  | .hbm, ⟨12, _⟩ => ⟨S12x4096, .f32⟩
  | .hbm, ⟨13, _⟩ => ⟨S12x4096x1, .f32⟩
  | .hbm, ⟨14, _⟩ => ⟨S12x4096x1, .f32⟩
  | .hbm, ⟨15, _⟩ => ⟨S_, .f32⟩
  | .hbm, ⟨16, _⟩ => ⟨S12x4096x1, .f32⟩
  | .hbm, ⟨17, _⟩ => ⟨S12x4096x1, .f32⟩
  | .hbm, ⟨18, _⟩ => ⟨S12x4096x64, .f32⟩
  | .hbm, ⟨19, _⟩ => ⟨S12x4096x64, .f32⟩
  | .hbm, ⟨20, _⟩ => ⟨S12x4096x64, .f32⟩
  | .hbm, ⟨21, _⟩ => ⟨S_, .f32⟩
  | .hbm, ⟨22, _⟩ => ⟨S12x4096, .f32⟩
  | .hbm, ⟨23, _⟩ => ⟨S12x4096x1, .f32⟩
  | .hbm, ⟨24, _⟩ => ⟨S12x4096x1, .f32⟩
  | .hbm, ⟨25, _⟩ => ⟨S_, .f32⟩
  | .hbm, ⟨26, _⟩ => ⟨S12x4096x1, .f32⟩
  | .hbm, ⟨27, _⟩ => ⟨S12x4096x1, .f32⟩
  | .hbm, ⟨28, _⟩ => ⟨S12x4096x64, .f32⟩
  | .hbm, ⟨29, _⟩ => ⟨S12x4096x64, .f32⟩
  | .hbm, ⟨30, _⟩ => ⟨S12x4096x4096, .f32⟩
  | .hbm, ⟨31, _⟩ => ⟨S12x4096x12, .f32⟩
  | .hbm, ⟨32, _⟩ => ⟨S12x4096x12, .i32⟩
  | .hbm, ⟨33, _⟩ => ⟨S_, .i32⟩
  | .hbm, ⟨34, _⟩ => ⟨S12x4096x12, .i32⟩
  | .hbm, ⟨35, _⟩ => ⟨S12x4096x12, .i1⟩
  | .hbm, ⟨36, _⟩ => ⟨S_, .i32⟩
  | .hbm, ⟨37, _⟩ => ⟨S12x4096x12, .i32⟩
  | .hbm, ⟨38, _⟩ => ⟨S12x4096x12, .i32⟩
  | .hbm, ⟨39, _⟩ => ⟨S12x4096x12, .i32⟩
  | .hbm, ⟨40, _⟩ => ⟨S12x4096x12x1, .i32⟩
  | .hbm, ⟨41, _⟩ => ⟨S12x4096x12x64, .f32⟩
  | .hbm, ⟨42, _⟩ => ⟨S12x4096x12x1, .f32⟩
  | .hbm, ⟨43, _⟩ => ⟨S12x4096x12x64, .f32⟩
  | .hbm, ⟨44, _⟩ => ⟨S12x4096x12x64, .f32⟩
  | .hbm, ⟨45, _⟩ => ⟨S_, .f32⟩
  | .hbm, ⟨46, _⟩ => ⟨S12x4096x64, .f32⟩
  | .hbm, ⟨47, _⟩ => ⟨S2x12x2048x64, .f32⟩
  | .hbm, ⟨48, _⟩ => ⟨S12, .f32⟩
  | .hbm, ⟨49, _⟩ => ⟨S12, .f32⟩
  | .hbm, ⟨50, _⟩ => ⟨S_, .f32⟩
  | .hbm, ⟨51, _⟩ => ⟨S12, .f32⟩
  | .hbm, ⟨52, _⟩ => ⟨S12, .f32⟩
  | .hbm, ⟨53, _⟩ => ⟨S_, .f32⟩
  | .hbm, ⟨54, _⟩ => ⟨S12, .f32⟩
  | .hbm, ⟨55, _⟩ => ⟨S12, .f32⟩
  | .hbm, ⟨56, _⟩ => ⟨S1x12x1x1, .f32⟩
  | .hbm, ⟨57, _⟩ => ⟨S2x12x2048x64, .f32⟩
  | .hbm, ⟨58, _⟩ => ⟨S2x12x2048x64, .f32⟩
  | .hbm, ⟨59, _⟩ => ⟨S_, .f32⟩
  | .hbm, ⟨60, _⟩ => ⟨S1x12x1x1, .f32⟩
  | .hbm, ⟨61, _⟩ => ⟨S1x12x1x1, .f32⟩
  | .hbm, ⟨62, _⟩ => ⟨S2x12x2048x64, .f32⟩
  | .hbm, ⟨63, _⟩ => ⟨S2x12x2048x64, .f32⟩
  | .hbm, ⟨64, _⟩ => ⟨S2x12x2048x64, .f32⟩
  | .hbm, ⟨65, _⟩ => ⟨S_, .f32⟩
  | _, _ => ⟨S2x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_call0_v0 : Ref sig .tc := ⟨.hbm, 10, rfl⟩
abbrev main_call0_cst : Ref sig .tc := ⟨.hbm, 11, rfl⟩
abbrev main_call0_v1 : Ref sig .tc := ⟨.hbm, 12, rfl⟩
abbrev main_call0_v2 : Ref sig .tc := ⟨.hbm, 13, rfl⟩
abbrev main_v2 : Ref sig .tc := ⟨.hbm, 14, rfl⟩
abbrev main_cst : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_call1_v0 : Ref sig .tc := ⟨.hbm, 20, rfl⟩
abbrev main_call1_cst : Ref sig .tc := ⟨.hbm, 21, rfl⟩
abbrev main_call1_v1 : Ref sig .tc := ⟨.hbm, 22, rfl⟩
abbrev main_call1_v2 : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_values : Ref sig .tc := ⟨.hbm, 31, rfl⟩
abbrev main_indices : Ref sig .tc := ⟨.hbm, 32, rfl⟩
abbrev main_c : Ref sig .tc := ⟨.hbm, 33, rfl⟩
abbrev main_v13 : Ref sig .tc := ⟨.hbm, 34, rfl⟩
abbrev main_v14 : Ref sig .tc := ⟨.hbm, 35, rfl⟩
abbrev main_c_1 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst_2 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_cst_3 : Ref sig .tc := ⟨.hbm, 50, rfl⟩
abbrev main_v27 : Ref sig .tc := ⟨.hbm, 51, rfl⟩
abbrev main_v28 : Ref sig .tc := ⟨.hbm, 52, rfl⟩
abbrev main_cst_4 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_cst_5 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_6 : Ref sig .tc := ⟨.hbm, 65, rfl⟩

abbrev nD : Nat := 1
abbrev τ : Topo := Topo.v7x

variable {F : FTy → Type} [FloatOps F]
-- ==== Proof.Net.lean ====
/- The four-deep network the kernel runs along the chunks of a row, and the rounds that read a threshold off it. -/
module

public import proofs.«01_k».proof.Proof.Gen.KernelIdeal.Skeleton

@[expose] public section

set_option maxRecDepth 16384

noncomputable section

namespace Cert.Knn

open Cert.KernelIdeal Cert.KernelIdeal.Gen Idealize.ShloMosaic Idealize.ShloMosaic.TcCoe

/-- Four values of one type: the running four greatest, greatest first. -/
structure Four (α : Type) where
  a : α
  b : α
  c : α
  d : α

section join
variable {α : Type} (mx mn : α → α → α)

/-- Four new values put in descending order by five comparisons. -/
def sort4 (x0 x1 x2 x3 : α) : Four α :=
  ⟨mx (mx x0 x1) (mx x2 x3),
   mx (mn (mx x0 x1) (mx x2 x3)) (mx (mn x0 x1) (mn x2 x3)),
   mn (mn (mx x0 x1) (mx x2 x3)) (mx (mn x0 x1) (mn x2 x3)),
   mn (mn x0 x1) (mn x2 x3)⟩

/-- Two descending fours merged, the four greatest kept. -/
def merge4 (s t : Four α) : Four α :=
  ⟨mx s.a t.a,
   mx (mx s.b t.b) (mx (mn s.a t.a) (mx s.c t.c)),
   mn (mx s.b t.b) (mx (mn s.a t.a) (mx s.c t.c)),
   mx (mx (mn s.b t.b) (mx s.d t.d)) (mn (mn s.a t.a) (mx s.c t.c))⟩

/-- The four greatest after the first `g` groups of four chunks, started from four copies of `z`. -/
def accN (z : α) (x : Fin 32 → α) : (g : ℕ) → g ≤ 8 → Four α
  | 0, _ => ⟨z, z, z, z⟩
  | g + 1, h => merge4 mx mn (accN z x g (by omega))
      (sort4 mx mn (x ⟨4 * g, by omega⟩) (x ⟨4 * g + 1, by omega⟩) (x ⟨4 * g + 2, by omega⟩) (x ⟨4 * g + 3, by omega⟩))

end join

variable {F : FTy → Type} [FloatOps F] [Named F]

/-- A chunk's columns lie inside the row. -/
theorem slices_chunk (k : Fin 32) : S512x4096.Slices ![0, 128 * (k : ℕ)] S512x128 := by
  revert k; decide +kernel

/-- Chunk `k` of the similarities: columns `128 k` to `128 k + 127`. -/
def chunk (v16 : FVec F S512x4096 .f32) (k : Fin 32) : FVec F S512x128 .f32 :=
  extractStridedSlice S512x128 ![0, 128 * (k : ℕ)] v16 (slices_chunk k)

/-- Everywhere the least value. -/
def lows : FVec F S512x128 .f32 := broadcast S512x128 (Scalar.ofBits .f32 0xFF800000#32)

/-- A chunk with what is not below the threshold replaced by the least value. -/
def below (t : FVec F S512x1 .f32) (x : FVec F S512x128 .f32) : FVec F S512x128 .f32 :=
  select (cmpf .olt x (broadcastTo S512x128 t broadcasts_S512x1_S512x128)) x lows

/-- A vector four's lanes side by side. -/
def pool (s : Four (FVec F S512x128 .f32)) : FVec F S512x512 .f32 :=
  concatenate S512x512 1 [⟨S512x128, s.a⟩, ⟨S512x128, s.b⟩, ⟨S512x128, s.c⟩, ⟨S512x128, s.d⟩] concatenates_S512x128_S512x128_S512x128_S512x128_S512x512_d1

/-- The greatest of each row. -/
def rowMax (p : FVec F S512x512 .f32) : FVec F S512x1 .f32 :=
  shapeCast S512x1 (multiReduction .maximumf [1] S512 p 0xFF800000#32 reduces_S512x512_S512 (.inl rfl) rfl) shapeCasts_S512_S512x1

/-- A pool with what is not below the threshold replaced by the least value. -/
def belowP (t : FVec F S512x1 .f32) (p : FVec F S512x512 .f32) : FVec F S512x512 .f32 :=
  select (cmpf .olt p (broadcastTo S512x512 t broadcasts_S512x1_S512x512)) p (broadcast S512x512 (Scalar.ofBits .f32 0xFF800000#32))

/-- The fourth greatest distinct value of each row. -/
def thr (p : FVec F S512x512 .f32) : FVec F S512x1 .f32 :=
  rowMax (belowP (rowMax (belowP (rowMax (belowP (rowMax p) p)) p)) p)

/-- The threshold one pass leaves on chunks `x`. -/
def passOf (x : Fin 32 → FVec F S512x128 .f32) : FVec F S512x1 .f32 :=
  thr (pool (accN maximumf minimumf lows x 8 le_rfl))

end Cert.Knn

end
-- ==== Proof.Block.lean ====
/- What one grid point leaves in the output's block and in the carried scratch, as plain values. -/
module

public import proofs.«01_k».proof.Proof.Net
public import proofs.«01_k».proof.Proof.Gen.KernelIdeal.Frame
public import Idealize.ShloMosaic.Lib.Pipeline.Value
public import Idealize.ShloMosaic.Lib.Tactic

@[expose] public section

set_option maxRecDepth 16384

noncomputable section

namespace Cert.Knn

open Cert.KernelIdeal Cert.KernelIdeal.Gen Idealize.ShloMosaic Idealize.ShloMosaic.TcCoe Idealize.ShloMosaic.Tactic

variable {F : FTy → Type} [FloatOps F] [Named F]

/-- The similarities with everything below the threshold of the three passes replaced by zero. -/
def kept (v16 : FVec F S512x4096 .f32) : FVec F S512x4096 .f32 :=
  let u1 := passOf (chunk v16)
  let u2 := passOf (fun k => below u1 (chunk v16 k))
  let u3 := passOf (fun k => below u2 (chunk v16 k))
  select (cmpf .oge v16 (broadcastTo S512x4096 u3 broadcasts_S512x1_S512x4096)) v16
    (broadcast S512x4096 (Scalar.ofBits .f32 0x00000000#32))

/-- The output block of a point: the gate's share of the kept values' sum plus the rest of the old output. -/
def outV (g : F .f32) (x1 : Vec F S1x512x64 .f32) (kn : Vec F S4096x64 .f32) (x3 : Vec F S1x4096x64 .f32)
    (x4 : Vec F S1x512x64 .f32) : Vec F S1x512x64 .f32 :=
  k0_pay1 (mulf (broadcast S512x64 (k0_pay461 g))
    (matmul dot_S512x4096_S4096x64_S512x64_1_0_0_1_n_n none (kept (k0_pay4 x1 kn)) (k0_pay3 x3) (constant S512x64 .f32 0x00000000#32)))
    (k0_pay463 g) x4

/-- The gate entry a point reads. -/
def gateAt (i : grid0.Coords) (x0 : Vec F S12x1 .f32) : F .f32 :=
  x0 (fun a => ⟨k0_off1 i a, lt_of_lt_of_le (Nat.lt_of_lt_of_le (Nat.lt_add_of_pos_right (by revert a; decide)) (k0_off1_inb i a)) le_rfl⟩)

/-- The two zero offsets are the zero function. -/
theorem hz2 : (![0, 0] : Fin 2 → Nat) = fun _ => 0 := funext fun a => by fin_cases a <;> rfl
/-- The three zero offsets are the zero function. -/
theorem hz3 : (![0, 0, 0] : Fin 3 → Nat) = fun _ => 0 := funext fun a => by fin_cases a <;> rfl

set_option maxHeartbeats 4000000 in
/-- A point that keeps the carried keys leaves `outV` of its blocks. -/
theorem out_B (c : Dev nD) (i : grid0.Coords) (arg2 : Memref sig .tc .smem S12x1 .f32) (harg2 : arg2.IsWhole) (arg3 : Memref sig .tc .vmem S1x512x64 .f32) (harg3 : arg3.IsWhole) (arg4 : Memref sig .tc .vmem S1x4096x64 .f32) (harg4 : arg4.IsWhole) (arg5 : Memref sig .tc .vmem S1x4096x64 .f32) (harg5 : arg5.IsWhole) (arg6 : Memref sig .tc .vmem S1x512x64 .f32) (harg6 : arg6.IsWhole) (arg7 : Memref sig .tc .vmem S1x512x64 .f32) (harg7 : arg7.IsWhole) (arg8 : Memref sig .tc .vmem S4096x64 .f32) (harg8 : arg8.IsWhole) (hc0 : ¬cond0_0 i)
    (x0 : Vec F S12x1 .f32) (x1 : Vec F S1x512x64 .f32) (x2 : Vec F S1x4096x64 .f32) (x3 : Vec F S1x4096x64 .f32) (x4 : Vec F S1x512x64 .f32) (xs0 : Vec F S4096x64 .f32) :
    out0_B_5 c i arg2 harg2 arg3 harg3 arg4 harg4 arg5 harg5 arg6 harg6 arg7 harg7 arg8 harg8 hc0 x0 x1 x2 x3 x4 xs0
      = outV (gateAt i x0) x1 xs0 x3 x4 := by
  unfold out0_B_5
  rw [View.read_writes_eq_canon _ _ _ (cover0_B_5 c i arg2 harg2 arg3 harg3 arg4 harg4 arg5 harg5 arg6 harg6 arg7 harg7 arg8 harg8 hc0 x0 x1 x2 x3 x4 xs0)]
  unfold kernelRun0_B
  dsimp only
  rw [View.canon_unit_zero hz3]
  sl_unfold_words
  simp only [View.readAt_eq_ld, harg2.read_unread, harg3.read_unread, harg4.read_unread, harg5.read_unread, harg6.read_unread, harg8.read_unread, View.ld_unit_zero (S := S1x512x64) hz3, View.ld_unit_zero (S := S1x4096x64) hz3, View.ld_unit_zero (S := S4096x64) hz2]
  rfl

/-- The carried scratch, read back at a head's first point, holds the normalized keys. -/
theorem keys_A (c : Dev nD) (arg4 : Memref sig .tc .vmem S1x4096x64 .f32) (harg4 : arg4.IsWhole) (arg8 : Memref sig .tc .vmem S4096x64 .f32) (x2 : Vec F S1x4096x64 .f32) :
    kernelRun0_A.sl.v5 c arg4 harg4 arg8 x2 = k0_pay2 x2 := by
  unfold kernelRun0_A.sl.v5 kernelRun0_A.sl.HS0_1
  rw [View.readCov_unit_zero (S := S4096x64) _ hz2]
  sl_unfold_words
  simp only [View.readAt_eq_ld, harg4.read_unread, View.ld_unit_zero (S := S1x4096x64) hz3]

set_option maxHeartbeats 4000000 in
/-- A head's first point normalizes the keys itself and leaves `outV` of its blocks. -/
theorem out_A (c : Dev nD) (i : grid0.Coords) (arg2 : Memref sig .tc .smem S12x1 .f32) (harg2 : arg2.IsWhole) (arg3 : Memref sig .tc .vmem S1x512x64 .f32) (harg3 : arg3.IsWhole) (arg4 : Memref sig .tc .vmem S1x4096x64 .f32) (harg4 : arg4.IsWhole) (arg5 : Memref sig .tc .vmem S1x4096x64 .f32) (harg5 : arg5.IsWhole) (arg6 : Memref sig .tc .vmem S1x512x64 .f32) (harg6 : arg6.IsWhole) (arg7 : Memref sig .tc .vmem S1x512x64 .f32) (harg7 : arg7.IsWhole) (arg8 : Memref sig .tc .vmem S4096x64 .f32) (harg8 : arg8.IsWhole) (hc0 : cond0_0 i)
    (x0 : Vec F S12x1 .f32) (x1 : Vec F S1x512x64 .f32) (x2 : Vec F S1x4096x64 .f32) (x3 : Vec F S1x4096x64 .f32) (x4 : Vec F S1x512x64 .f32) :
    out0_A_5 c i arg2 harg2 arg3 harg3 arg4 harg4 arg5 harg5 arg6 harg6 arg7 harg7 arg8 harg8 hc0 x0 x1 x2 x3 x4
      = outV (gateAt i x0) x1 (k0_pay2 x2) x3 x4 := by
  unfold out0_A_5
  rw [View.read_writes_eq_canon _ _ _ (cover0_A_5 c i arg2 harg2 arg3 harg3 arg4 harg4 arg5 harg5 arg6 harg6 arg7 harg7 arg8 harg8 hc0 x0 x1 x2 x3 x4)]
  unfold kernelRun0_A
  dsimp only
  rw [View.canon_unit_zero hz3]
  have h := keys_A c arg4 harg4 arg8 x2
  unfold kernelRun0_A.sl.v5 kernelRun0_A.sl.HS0_1 at h
  sl_unfold_words
  simp only [h]
  simp only [View.readAt_eq_ld, harg2.read_unread, harg3.read_unread, harg4.read_unread, harg5.read_unread, harg6.read_unread, View.ld_unit_zero (S := S1x512x64) hz3, View.ld_unit_zero (S := S1x4096x64) hz3]
  rfl

/-- A head's first point leaves the normalized keys in the carried scratch. -/
theorem sout_A (c : Dev nD) (i : grid0.Coords) (arg2 : Memref sig .tc .smem S12x1 .f32) (harg2 : arg2.IsWhole) (arg3 : Memref sig .tc .vmem S1x512x64 .f32) (harg3 : arg3.IsWhole) (arg4 : Memref sig .tc .vmem S1x4096x64 .f32) (harg4 : arg4.IsWhole) (arg5 : Memref sig .tc .vmem S1x4096x64 .f32) (harg5 : arg5.IsWhole) (arg6 : Memref sig .tc .vmem S1x512x64 .f32) (harg6 : arg6.IsWhole) (arg7 : Memref sig .tc .vmem S1x512x64 .f32) (harg7 : arg7.IsWhole) (arg8 : Memref sig .tc .vmem S4096x64 .f32) (harg8 : arg8.IsWhole) (hc0 : cond0_0 i)
    (x0 : Vec F S12x1 .f32) (x1 : Vec F S1x512x64 .f32) (x2 : Vec F S1x4096x64 .f32) (x3 : Vec F S1x4096x64 .f32) (x4 : Vec F S1x512x64 .f32) :
    sout0_A_0 c i arg2 harg2 arg3 harg3 arg4 harg4 arg5 harg5 arg6 harg6 arg7 harg7 arg8 harg8 hc0 x0 x1 x2 x3 x4
      = k0_pay2 x2 := by
  unfold sout0_A_0
  rw [View.read_writes_eq_canon _ _ _ (scover0_A_0 c i arg2 harg2 arg3 harg3 arg4 harg4 arg5 harg5 arg6 harg6 arg7 harg7 arg8 harg8 hc0 x0 x1 x2 x3 x4)]
  unfold kernelRun0_A
  dsimp only
  unfold kernelRun0_A.sl.HS0_1
  rw [View.canon_unit_zero hz2]
  sl_unfold_words
  simp only [View.readAt_eq_ld, harg2.read_unread, harg3.read_unread, harg4.read_unread, harg5.read_unread, harg6.read_unread, View.ld_unit_zero (S := S1x512x64) hz3, View.ld_unit_zero (S := S1x4096x64) hz3]

end Cert.Knn

end
-- ==== Proof.Grid.lean ====
/- The kernel's whole run, read: the array its grid fills, as one value of the arrays the region finds, and the two
   results after the host's operations behind the region. -/
module

public import proofs.«01_k».proof.Proof.Block
public import Idealize.ShloMosaic.Lib.ValueIdxCore
public import Idealize.ShloMosaic.Lib.StableHlo.Run

@[expose] public section

set_option maxRecDepth 16384

noncomputable section

namespace Cert.Knn

open Cert.KernelIdeal Cert.KernelIdeal.Gen Idealize.ShloMosaic Idealize.ShloMosaic.TcCoe Idealize.ShloMosaic.Tactic
open Idealize.SL.Sem Idealize.ShloMosaic.ValueIdx
open Idealize.ShloMosaic.Pipeline (Dat)

variable {F : FTy → Type} [FloatOps F] [Named F]
variable (m : (ℓ : Loc nD τ sig) → Buf (Elt F) ℓ) (ρ : Dev nD → PrngReg)

/-- A grid point's head. -/
theorem crd0 (t : Fin grid0.N) : (grid0.coords t 0).val = t.val / 8 := by
  have ht : t.val < 96 := Nat.lt_of_lt_of_eq t.isLt N_0
  have e0 : (grid0.coords t 0).val = t.val / 8 % 12 := Pipeline.Grid.coords_val t 0 (by decide) rfl
  omega
/-- A grid point's query tile. -/
theorem crd1 (t : Fin grid0.N) : (grid0.coords t 1).val = t.val % 8 := by
  have e1 : (grid0.coords t 1).val = t.val / 1 % 8 := Pipeline.Grid.coords_val t 1 (by decide) rfl
  omega

/-- A point's number is below the grid's count. -/
theorem pt_lt (t : Fin cfg0.N) : t.val < 96 := Nat.lt_of_lt_of_eq t.isLt N_0

/-- The head of a point as an index. -/
def hd (t : Fin cfg0.N) : Fin 12 := ⟨t.val / 8, by have := pt_lt t; omega⟩
/-- The row of the array that row `r` of a point's query block is. -/
def row (t : Fin cfg0.N) (r : Fin 512) : Fin 4096 := ⟨t.val % 8 * 512 + r.val, by have := r.isLt; omega⟩

/-- The block indices of the windows over (head, query tile). -/
theorem idx_tile (t : Fin grid0.N) : cc0_transform_1 (grid0.coords t) = ![t.val / 8, t.val % 8, 0] := by
  have ht : t.val < 96 := Nat.lt_of_lt_of_eq t.isLt N_0
  unfold cc0_transform_1
  simp only [crd0, crd1, BitVec.toNat_ofNat]
  funext a
  match a with
  | ⟨0, _⟩ => show t.val / 8 % 2 ^ 32 = t.val / 8; omega
  | ⟨1, _⟩ => show t.val % 8 % 2 ^ 32 = t.val % 8; omega
  | ⟨2, _⟩ => rfl
/-- The block indices of the windows over the head alone. -/
theorem idx_head (t : Fin grid0.N) : cc0_transform_2 (grid0.coords t) = ![t.val / 8, 0, 0] := by
  have ht : t.val < 96 := Nat.lt_of_lt_of_eq t.isLt N_0
  unfold cc0_transform_2
  simp only [crd0, BitVec.toNat_ofNat]
  funext a
  match a with
  | ⟨0, _⟩ => show t.val / 8 % 2 ^ 32 = t.val / 8; omega
  | ⟨1, _⟩ => rfl
  | ⟨2, _⟩ => rfl

/-- The query block of a point: 512 rows of its head. -/
theorem blk_q (c : Dev nD) (t : Fin cfg0.N) :
    (iblk m c 1 t : Vec F S1x512x64 .f32) = fun j => V m c main_call0_v1 (ix3 (hd t) (row t (j 1)) (j 2)) := by
  funext j
  have hi := idx_tile t
  unfold iblk
  rw [View.read_apply]
  show V m c main_call0_v1 _ = _
  congr 1
  funext a
  apply Fin.ext
  have h0 : (j 0).val < 1 := (j 0).isLt
  match a with
  | ⟨0, _⟩ => show cc0_transform_1 (grid0.coords t) 0 * 1 + 1 * (j 0).val = t.val / 8; rw [hi]; show t.val / 8 * 1 + _ = _; omega
  | ⟨1, _⟩ => show cc0_transform_1 (grid0.coords t) 1 * 512 + 1 * (j 1).val = t.val % 8 * 512 + (j 1).val; rw [hi]; show t.val % 8 * 512 + _ = _; omega
  | ⟨2, _⟩ => show cc0_transform_1 (grid0.coords t) 2 * 64 + 1 * (j 2).val = (j 2).val; rw [hi]; show 0 * 64 + _ = _; omega

/-- The old outputs' block of a point. -/
theorem blk_o (c : Dev nD) (t : Fin cfg0.N) :
    (iblk m c 4 t : Vec F S1x512x64 .f32) = fun j => V m c main_call0_v2 (ix3 (hd t) (row t (j 1)) (j 2)) := by
  funext j
  have hi := idx_tile t
  unfold iblk
  rw [View.read_apply]
  show V m c main_call0_v2 _ = _
  congr 1
  funext a
  apply Fin.ext
  have h0 : (j 0).val < 1 := (j 0).isLt
  match a with
  | ⟨0, _⟩ => show cc0_transform_1 (grid0.coords t) 0 * 1 + 1 * (j 0).val = t.val / 8; rw [hi]; show t.val / 8 * 1 + _ = _; omega
  | ⟨1, _⟩ => show cc0_transform_1 (grid0.coords t) 1 * 512 + 1 * (j 1).val = t.val % 8 * 512 + (j 1).val; rw [hi]; show t.val % 8 * 512 + _ = _; omega
  | ⟨2, _⟩ => show cc0_transform_1 (grid0.coords t) 2 * 64 + 1 * (j 2).val = (j 2).val; rw [hi]; show 0 * 64 + _ = _; omega

/-- The keys' block of a point: all of its head's rows. -/
theorem blk_k (c : Dev nD) (t : Fin cfg0.N) :
    (iblk m c 2 t : Vec F S1x4096x64 .f32) = fun j => V m c main_arg6 (ix3 (hd t) (j 1) (j 2)) := by
  funext j
  have hi := idx_head t
  unfold iblk
  rw [View.read_apply]
  show V m c main_arg6 _ = _
  congr 1
  funext a
  apply Fin.ext
  have h0 : (j 0).val < 1 := (j 0).isLt
  match a with
  | ⟨0, _⟩ => show cc0_transform_2 (grid0.coords t) 0 * 1 + 1 * (j 0).val = t.val / 8; rw [hi]; show t.val / 8 * 1 + _ = _; omega
  | ⟨1, _⟩ => show cc0_transform_2 (grid0.coords t) 1 * 4096 + 1 * (j 1).val = (j 1).val; rw [hi]; show 0 * 4096 + _ = _; omega
  | ⟨2, _⟩ => show cc0_transform_2 (grid0.coords t) 2 * 64 + 1 * (j 2).val = (j 2).val; rw [hi]; show 0 * 64 + _ = _; omega

/-- The values' block of a point. -/
theorem blk_v (c : Dev nD) (t : Fin cfg0.N) :
    (iblk m c 3 t : Vec F S1x4096x64 .f32) = fun j => V m c main_arg7 (ix3 (hd t) (j 1) (j 2)) := by
  funext j
  have hi := idx_head t
  unfold iblk
  rw [View.read_apply]
  show V m c main_arg7 _ = _
  congr 1
  funext a
  apply Fin.ext
  have h0 : (j 0).val < 1 := (j 0).isLt
  match a with
  | ⟨0, _⟩ => show cc0_transform_2 (grid0.coords t) 0 * 1 + 1 * (j 0).val = t.val / 8; rw [hi]; show t.val / 8 * 1 + _ = _; omega
  | ⟨1, _⟩ => show cc0_transform_2 (grid0.coords t) 1 * 4096 + 1 * (j 1).val = (j 1).val; rw [hi]; show 0 * 4096 + _ = _; omega
  | ⟨2, _⟩ => show cc0_transform_2 (grid0.coords t) 2 * 64 + 1 * (j 2).val = (j 2).val; rw [hi]; show 0 * 64 + _ = _; omega

/-- The gates' block of a point: the whole array. -/
theorem blk_g (c : Dev nD) (t : Fin cfg0.N) : (iblk m c 0 t : Vec F S12x1 .f32) = V m c main_call0_v3 := by
  funext j
  unfold iblk
  rw [View.read_apply]
  show V m c main_call0_v3 _ = _
  congr 1
  funext a
  apply Fin.ext
  match a with
  | ⟨0, _⟩ => show 0 * 12 + 1 * (j 0).val = (j 0).val; omega
  | ⟨1, _⟩ => show 0 * 1 + 1 * (j 1).val = (j 1).val; omega

/-- A head's keys as a block. -/
def keysOf (c : Dev nD) (h : Fin 12) : Vec F S1x4096x64 .f32 := fun j => V m c main_arg6 (ix3 h (j 1) (j 2))
/-- A head's values as a block. -/
def valsOf (c : Dev nD) (h : Fin 12) : Vec F S1x4096x64 .f32 := fun j => V m c main_arg7 (ix3 h (j 1) (j 2))

/-- After every point the carried scratch holds the normalized keys of the point's head. -/
theorem carried (c : Dev nD) : ∀ (n : ℕ) (h : n < cfg0.N), (outsAt0 m c n h).2 = k0_pay2 (keysOf m c (hd ⟨n, h⟩))
  | n, h => by
    by_cases h0 : n % 8 = 0
    · rw [outsAt0_A m c ⟨n, h⟩ h0]
      dsimp only
      rw [sout_A, blk_k]
      rfl
    · rw [outsAt0_B m c ⟨n, h⟩ h0]
      show (outsAt0 m c (n - 1) _).2 = _
      rw [carried c (n - 1) (Nat.lt_of_le_of_lt (Nat.sub_le _ _) h)]
      congr 2
      apply Fin.ext
      show (n - 1) / 8 = n / 8
      omega
  termination_by n => n
  decreasing_by omega

/-- What a point leaves in the output's block. -/
theorem left (c : Dev nD) (t : Fin cfg0.N) : (outsAt0 m c t.val t.isLt).1
    = outV (gateAt (grid0.coords t) (V m c main_call0_v3)) (iblk m c 1 t) (k0_pay2 (keysOf m c (hd t))) (valsOf m c (hd t)) (iblk m c 4 t) := by
  by_cases h0 : t.val % 8 = 0
  · rw [outsAt0_A m c t h0]
    dsimp only
    rw [out_A, blk_k, blk_v, blk_g]
    rfl
  · rw [outsAt0_B m c t h0]
    dsimp only
    rw [out_B, blk_v, blk_g, carried]
    have e : hd (⟨t.val - 1, Nat.lt_of_le_of_lt (Nat.sub_le _ _) t.isLt⟩ : Fin cfg0.N) = hd t := by
      apply Fin.ext; show (t.val - 1) / 8 = t.val / 8; omega
    rw [e]
    rfl

/-- The point that writes row `s` of head `h`. -/
def ptOf (h : Fin 12) (s : Fin 4096) : Fin cfg0.N :=
  ⟨h.val * 8 + s.val / 512, by have hN : cfg0.N = 96 := N_0; have := h.isLt; have := s.isLt; omega⟩

/-- The array the grid fills. -/
def filled (c : Dev nD) : Buf (Elt F) ((c : Thread nD τ).loc main_call0_v4) := fun i =>
  (outsAt0 m c (ptOf (i 0) (i 1)).val (ptOf (i 0) (i 1)).isLt).1
    (ix3 (0 : Fin 1) (⟨(i 1).val % 512, Nat.mod_lt _ (by decide)⟩ : Fin 512) (i 2 : Fin 64))

/-- Every write-back writes the filled array's block. -/
theorem flushed_eq (c : Dev nD) (t : Fin cfg0.N) (_hf : (cfg0.win 5).flush t = true) :
    (dats m 0 c).flushed 5 t = ((cfg0.win 5).blk t).view.read (Elt F) (filled m c) := by
  show (cfg0.win 5).cut (grid0.coords t) ((dats m 0 c).after 5 t) = _
  rw [after0_5]
  have hi := idx_tile t
  have ht := pt_lt t
  funext j
  have h0 : (j 0).val < 1 := (j 0).isLt
  have h1 : (j 1).val < 512 := (j 1).isLt
  rw [View.read_apply]
  have e0 : (((cfg0.win 5).blk t).view.emb j : S12x4096x64.Idx) = ix3 (hd t) (row t (j 1)) (j 2) := by
    funext a
    apply Fin.ext
    match a with
    | ⟨0, _⟩ => show cc0_transform_1 (grid0.coords t) 0 * 1 + 1 * (j 0).val = t.val / 8; rw [hi]; show t.val / 8 * 1 + _ = _; omega
    | ⟨1, _⟩ => show cc0_transform_1 (grid0.coords t) 1 * 512 + 1 * (j 1).val = t.val % 8 * 512 + (j 1).val; rw [hi]; show t.val % 8 * 512 + _ = _; omega
    | ⟨2, _⟩ => show cc0_transform_1 (grid0.coords t) 2 * 64 + 1 * (j 2).val = (j 2).val; rw [hi]; show 0 * 64 + _ = _; omega
  show (outsAt0 m c t.val t.isLt).1 _ = filled m c (((cfg0.win 5).blk t).view.emb j : S12x4096x64.Idx)
  rw [e0]
  unfold filled
  have ep : ptOf (hd t) (row t (j 1)) = t := by
    apply Fin.ext; show t.val / 8 * 8 + (t.val % 8 * 512 + (j 1).val) / 512 = t.val; omega
  show _ = (outsAt0 m c (ptOf (hd t) (row t (j 1))).val (ptOf (hd t) (row t (j 1))).isLt).1 _
  rw [ep]
  refine congrArg (outsAt0 m c t.val t.isLt).1 ?_
  funext a
  apply Fin.ext
  match a with
  | ⟨0, _⟩ => show (j 0).val = 0; omega
  | ⟨1, _⟩ => show (j 1).val = (t.val % 8 * 512 + (j 1).val) % 512; omega
  | ⟨2, _⟩ => rfl

/-- So the region leaves the filled array. -/
theorem final_v4 (c : Dev nD) : (dats m 0 c).arrAt 5 cfg0.N = filled m c :=
  (dats m 0 c).arrAt_eq_of_cover 5 (filled m c) (flushed_eq m c) fun i =>
    ⟨ptOf (i 0) (i 1), flush0_5 _, by
      show i ∈ ((View.whole main_call0_v4).slice (win0_5.rect (ptOf (i 0) (i 1)))).set
      rw [View.set_slice_whole, Rect.mem_set_unit]
      intro a
      have h0 : (i 0 : Nat) < 12 := (i 0).isLt
      have h1 : (i 1 : Nat) < 4096 := (i 1).isLt
      have h2 : (i 2 : Nat) < 64 := (i 2).isLt
      have hi := idx_tile (ptOf (i 0) (i 1))
      have hv : (ptOf (i 0) (i 1)).val = (i 0).val * 8 + (i 1).val / 512 := rfl
      rw [hv] at hi
      match a with
      | ⟨0, _⟩ =>
        show cc0_transform_1 (grid0.coords (ptOf (i 0) (i 1))) 0 * 1 ≤ (i 0 : Nat) ∧ (i 0 : Nat) < cc0_transform_1 (grid0.coords (ptOf (i 0) (i 1))) 0 * 1 + 1
        rw [hi]
        show ((i 0).val * 8 + (i 1).val / 512) / 8 * 1 ≤ (i 0 : Nat) ∧ (i 0 : Nat) < ((i 0).val * 8 + (i 1).val / 512) / 8 * 1 + 1
        omega
      | ⟨1, _⟩ =>
        show cc0_transform_1 (grid0.coords (ptOf (i 0) (i 1))) 1 * 512 ≤ (i 1 : Nat) ∧ (i 1 : Nat) < cc0_transform_1 (grid0.coords (ptOf (i 0) (i 1))) 1 * 512 + 512
        rw [hi]
        show ((i 0).val * 8 + (i 1).val / 512) % 8 * 512 ≤ (i 1 : Nat) ∧ (i 1 : Nat) < ((i 0).val * 8 + (i 1).val / 512) % 8 * 512 + 512
        omega
      | ⟨2, _⟩ =>
        show cc0_transform_1 (grid0.coords (ptOf (i 0) (i 1))) 2 * 64 ≤ (i 2 : Nat) ∧ (i 2 : Nat) < cc0_transform_1 (grid0.coords (ptOf (i 0) (i 1))) 2 * 64 + 64
        rw [hi]
        show 0 * 64 ≤ (i 2 : Nat) ∧ (i 2 : Nat) < 0 * 64 + 64
        omega⟩

/-- The reshaped result after the region. -/
theorem tail_v0 (c : Dev nD) : Pipeline.afterTail₀ cfgs (dats m) 0 (V0 m) [hostOps1, hostOps1_1] c main_v0
    = shapeCast S2x12x2048x64 (filled m c) shapeCasts_S12x4096x64_S2x12x2048x64 := by
  have h := Pipeline.withArrays_arr spec0 launch0.win.arr_inj c (V0 m c) (fun w => (dats m 0 c).arrAt w cfg0.N) 5
  rw [final_v4] at h
  rw [← h]
  unfold Pipeline.afterTail₀
  simp only [List.flatten_cons, List.flatten_nil, List.append_nil, List.cons_append, List.nil_append, StableHlo.TRef.reshape, StableHlo.TRef.toBuf, StableHlo.TRef.ofBuf, cast_eq]
  after_results
  rfl

/-- The constant result after the region. -/
theorem tail_cst (c : Dev nD) : Pipeline.afterTail₀ cfgs (dats m) 0 (V0 m) [hostOps1, hostOps1_1] c main_cst
    = constant S_ .f32 0x00000000#32 := by
  unfold Pipeline.afterTail₀
  simp only [List.flatten_cons, List.flatten_nil, List.append_nil, List.cons_append, List.nil_append, StableHlo.TRef.reshape, StableHlo.TRef.toBuf, StableHlo.TRef.ofBuf, cast_eq]
  after_results

/-- The queries the region finds: transposed, then two axes joined. -/
theorem V_q (c : Dev nD) : V m c main_call0_v1 = shapeCast S12x4096x64
    (transpose S12x2x2048x64 [1, 0, 2, 3] (m ((c : Thread nD τ).loc main_arg1)) transposes_S2x12x2048x64_S12x2x2048x64_1_0_2_3)
    shapeCasts_S12x2x2048x64_S12x4096x64 := by
  show StableHlo.after hostOps0 _ _ = _
  simp only [hostOps0, StableHlo.TRef.unary, StableHlo.TRef.reshape, StableHlo.TRef.toBuf, StableHlo.TRef.ofBuf, cast_eq]
  after_results
  rfl
/-- The old outputs the region finds: reshaped. -/
theorem V_o (c : Dev nD) : V m c main_call0_v2 = shapeCast S12x4096x64
    (m ((c : Thread nD τ).loc main_arg4)) shapeCasts_S2x12x2048x64_S12x4096x64 := by
  show StableHlo.after hostOps0 _ _ = _
  simp only [hostOps0, StableHlo.TRef.unary, StableHlo.TRef.reshape, StableHlo.TRef.toBuf, StableHlo.TRef.ofBuf, cast_eq]
  after_results
  rfl
/-- The gates the region finds: reshaped. -/
theorem V_g (c : Dev nD) : V m c main_call0_v3 = shapeCast S12x1
    (m ((c : Thread nD τ).loc main_arg5)) shapeCasts_S12_S12x1 := by
  show StableHlo.after hostOps0 _ _ = _
  simp only [hostOps0, StableHlo.TRef.unary, StableHlo.TRef.reshape, StableHlo.TRef.toBuf, StableHlo.TRef.ofBuf, cast_eq]
  after_results
  rfl

/-- The kernel's run: its two results, its arguments unchanged. -/
theorem run : θ_run defs (onTc (τ := τ) (main (F := F))) ⟨m, fun _ => 0, ρ⟩ (fun r => ∀ c : Dev nD,
      r.2.mem ((c.tc : Thread nD τ).loc main_v0) = shapeCast S2x12x2048x64 (filled m c) shapeCasts_S12x4096x64_S2x12x2048x64
      ∧ r.2.mem ((c.tc : Thread nD τ).loc main_cst) = constant S_ .f32 0x00000000#32
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))) :=
  (θ_run defs _ _).mono (fun _ h c => ⟨((h.1 c).2 main_v0 (by decide)).trans (tail_v0 m c),
    ((h.1 c).2 main_cst (by decide)).trans (tail_cst m c), h.2 c⟩)
    (θ_run_and (run_main m ρ) (unchanged m ρ))

end Cert.Knn

end
-- ==== Proof.Pick.lean ====
/- What the network and its rounds pick out of a row, over any linear order with a least element: the four greatest
   of each lane by the zero-one principle, then the fourth, eighth and twelfth value of the row. -/
module

public import proofs.«01_k».proof.Proof.Grid

@[expose] public section

namespace Cert.Knn

/-! ## The network on truth values -/

section zeroOne

/-- A four with `f` applied to each member. -/
def Four.map {α β : Type} (f : α → β) (s : Four α) : Four β := ⟨f s.a, f s.b, f s.c, f s.d⟩

/-- `v` is one of the four. -/
def Four.Has {α : Type} (s : Four α) (v : α) : Prop := s.a = v ∨ s.b = v ∨ s.c = v ∨ s.d = v

/-- How many of the four hold. -/
def Four.num (s : Four Bool) : ℕ := s.a.toNat + s.b.toNat + s.c.toNat + s.d.toNat

/-- The four are in descending order. -/
def Four.Desc (s : Four Bool) : Prop := (s.b → s.a) ∧ (s.c → s.b) ∧ (s.d → s.c)

/-- The network commutes with a map that carries its two comparisons to two others. -/
theorem accN_map {α β : Type} {mx mn : α → α → α} {mx' mn' : β → β → β} (f : α → β)
    (hmx : ∀ a b, f (mx a b) = mx' (f a) (f b)) (hmn : ∀ a b, f (mn a b) = mn' (f a) (f b)) (z : α) (x : Fin 32 → α) :
    ∀ (g : ℕ) (h : g ≤ 8), (accN mx mn z x g h).map f = accN mx' mn' (f z) (fun k => f (x k)) g h
  | 0, _ => rfl
  | g + 1, h => by
    have ih := accN_map f hmx hmn z x g (by omega)
    show (merge4 mx mn (accN mx mn z x g (by omega)) _).map f = merge4 mx' mn' (accN mx' mn' (f z) (fun k => f (x k)) g (by omega)) _
    rw [← ih]
    simp only [merge4, sort4, Four.map, hmx, hmn]

/-- One group merged into a descending four of truth values: descending again, and counting up to four. -/
theorem step_bool : ∀ a b c d x0 x1 x2 x3 : Bool, (b → a) → (c → b) → (d → c) →
    ((merge4 or and ⟨a, b, c, d⟩ (sort4 or and x0 x1 x2 x3)).b → (merge4 or and ⟨a, b, c, d⟩ (sort4 or and x0 x1 x2 x3)).a)
    ∧ ((merge4 or and ⟨a, b, c, d⟩ (sort4 or and x0 x1 x2 x3)).c → (merge4 or and ⟨a, b, c, d⟩ (sort4 or and x0 x1 x2 x3)).b)
    ∧ ((merge4 or and ⟨a, b, c, d⟩ (sort4 or and x0 x1 x2 x3)).d → (merge4 or and ⟨a, b, c, d⟩ (sort4 or and x0 x1 x2 x3)).c)
    ∧ (merge4 or and ⟨a, b, c, d⟩ (sort4 or and x0 x1 x2 x3)).num
      = min 4 (a.toNat + b.toNat + c.toNat + d.toNat + (x0.toNat + x1.toNat + x2.toNat + x3.toNat)) := by
  decide

/-- How many of the first `g` groups' truth values hold. -/
def cnt (y : Fin 32 → Bool) : (g : ℕ) → g ≤ 8 → ℕ
  | 0, _ => 0
  | g + 1, h => cnt y g (by omega) + ((y ⟨4 * g, by omega⟩).toNat + (y ⟨4 * g + 1, by omega⟩).toNat
      + (y ⟨4 * g + 2, by omega⟩).toNat + (y ⟨4 * g + 3, by omega⟩).toNat)

/-- On truth values the network keeps the count, up to four. -/
theorem accN_bool (y : Fin 32 → Bool) : ∀ (g : ℕ) (h : g ≤ 8),
    (accN or and false y g h).Desc ∧ (accN or and false y g h).num = min 4 (cnt y g h)
  | 0, _ => ⟨⟨id, id, id⟩, rfl⟩
  | g + 1, h => by
    obtain ⟨⟨d1, d2, d3⟩, hn⟩ := accN_bool y g (by omega)
    obtain ⟨e1, e2, e3, e4⟩ := step_bool _ _ _ _ (y ⟨4 * g, by omega⟩) (y ⟨4 * g + 1, by omega⟩) (y ⟨4 * g + 2, by omega⟩)
      (y ⟨4 * g + 3, by omega⟩) d1 d2 d3
    refine ⟨⟨e1, e2, e3⟩, e4.trans ?_⟩
    unfold Four.num at hn
    rw [hn]
    show _ = min 4 (cnt y g (by omega) + _)
    omega

/-- Over all eight groups the count is the number of places. -/
theorem cnt_all (y : Fin 32 → Bool) : cnt y 8 le_rfl = (Finset.univ.filter fun k => y k = true).card := by
  rw [Finset.card_filter]
  have e : ∀ k : Fin 32, (if y k = true then 1 else 0) = (y k).toNat := fun k => by cases y k <;> rfl
  simp only [e, Fin.sum_univ_succ, Fin.sum_univ_zero]
  show 0 + ((y 0).toNat + (y 1).toNat + (y 2).toNat + (y 3).toNat) + ((y 4).toNat + (y 5).toNat + (y 6).toNat + (y 7).toNat)
    + ((y 8).toNat + (y 9).toNat + (y 10).toNat + (y 11).toNat) + ((y 12).toNat + (y 13).toNat + (y 14).toNat + (y 15).toNat)
    + ((y 16).toNat + (y 17).toNat + (y 18).toNat + (y 19).toNat) + ((y 20).toNat + (y 21).toNat + (y 22).toNat + (y 23).toNat)
    + ((y 24).toNat + (y 25).toNat + (y 26).toNat + (y 27).toNat) + ((y 28).toNat + (y 29).toNat + (y 30).toNat + (y 31).toNat)
    = (y 0).toNat + ((y 1).toNat + ((y 2).toNat + ((y 3).toNat + ((y 4).toNat + ((y 5).toNat + ((y 6).toNat + ((y 7).toNat
    + ((y 8).toNat + ((y 9).toNat + ((y 10).toNat + ((y 11).toNat + ((y 12).toNat + ((y 13).toNat + ((y 14).toNat + ((y 15).toNat
    + ((y 16).toNat + ((y 17).toNat + ((y 18).toNat + ((y 19).toNat + ((y 20).toNat + ((y 21).toNat + ((y 22).toNat + ((y 23).toNat
    + ((y 24).toNat + ((y 25).toNat + ((y 26).toNat + ((y 27).toNat + ((y 28).toNat + ((y 29).toNat + ((y 30).toNat + ((y 31).toNat + 0)))))))))))))))))))))))))))))))
  omega

end zeroOne

/-! ## The network on a linear order -/

section order
variable {α : Type} [LinearOrder α] [OrderBot α]

/-- Each member is the least element or one of the values seen. -/
theorem accN_from (Q : α → Prop) (h0 : Q ⊥) (x : Fin 32 → α) (hx : ∀ k, Q (x k)) : ∀ (g : ℕ) (h : g ≤ 8),
    Q (accN max min ⊥ x g h).a ∧ Q (accN max min ⊥ x g h).b ∧ Q (accN max min ⊥ x g h).c ∧ Q (accN max min ⊥ x g h).d
  | 0, _ => ⟨h0, h0, h0, h0⟩
  | g + 1, h => by
    obtain ⟨ha, hb, hc, hd⟩ := accN_from Q h0 x hx g (by omega)
    have M : ∀ {u w : α}, Q u → Q w → Q (max u w) := fun {u w} hu hw => by rcases max_choice u w with e | e <;> rw [e] <;> assumption
    have N : ∀ {u w : α}, Q u → Q w → Q (min u w) := fun {u w} hu hw => by rcases min_choice u w with e | e <;> rw [e] <;> assumption
    have x0 := hx ⟨4 * g, by omega⟩
    have x1 := hx ⟨4 * g + 1, by omega⟩
    have x2 := hx ⟨4 * g + 2, by omega⟩
    have x3 := hx ⟨4 * g + 3, by omega⟩
    have sa := M (M x0 x1) (M x2 x3)
    have sb := M (N (M x0 x1) (M x2 x3)) (M (N x0 x1) (N x2 x3))
    have sc := N (N (M x0 x1) (M x2 x3)) (M (N x0 x1) (N x2 x3))
    have sd := N (N x0 x1) (N x2 x3)
    exact ⟨M ha sa, M (M hb sb) (M (N ha sa) (M hc sc)), N (M hb sb) (M (N ha sa) (M hc sc)),
      M (M (N hb sb) (M hd sd)) (N (N ha sa) (M hc sc))⟩

/-- A value seen above which at most three others were seen is among the four. -/
theorem accN_has (x : Fin 32 → α) (v : α) (hv : ⊥ < v) (k0 : Fin 32) (hk : x k0 = v) (T : Finset (Fin 32))
    (hT : T.card ≤ 3) (hx : ∀ k, v < x k → k ∈ T) : (accN max min ⊥ x 8 le_rfl).Has v := by
  have h1 := accN_map (mx := max) (mn := min) (mx' := or) (mn' := and) (fun u : α => decide (v ≤ u)) (fun a b => by simp [le_max_iff]) (fun a b => by simp [le_min_iff]) ⊥ x 8 le_rfl
  have h2 := accN_map (mx := max) (mn := min) (mx' := or) (mn' := and) (fun u : α => decide (v < u)) (fun a b => by simp [lt_max_iff]) (fun a b => by simp [lt_min_iff]) ⊥ x 8 le_rfl
  have z1 : decide (v ≤ (⊥ : α)) = false := by simp [hv.ne']
  have z2 : decide (v < (⊥ : α)) = false := by simp
  rw [z1] at h1
  rw [z2] at h2
  have n1 := (accN_bool (fun k => decide (v ≤ x k)) 8 le_rfl).2
  have n2 := (accN_bool (fun k => decide (v < x k)) 8 le_rfl).2
  rw [← h1, cnt_all] at n1
  rw [← h2, cnt_all] at n2
  have c2 : (Finset.univ.filter fun k => decide (v < x k) = true).card ≤ 3 :=
    (Finset.card_le_card fun k hk => hx k (by simpa using hk)).trans hT
  have c1 : (Finset.univ.filter fun k => decide (v < x k) = true).card < (Finset.univ.filter fun k => decide (v ≤ x k) = true).card := by
    refine Finset.card_lt_card ⟨fun k hk => ?_, fun hs => ?_⟩
    · simp only [Finset.mem_filter, Finset.mem_univ, true_and, decide_eq_true_eq] at hk ⊢
      exact hk.le
    · have := hs (Finset.mem_filter.mpr ⟨Finset.mem_univ k0, by simp [hk]⟩)
      simp [hk] at this
  by_contra hn
  unfold Four.Has at hn
  push Not at hn
  obtain ⟨ha, hb, hc, hd⟩ := hn
  have e : ∀ u : α, u ≠ v → decide (v ≤ u) = decide (v < u) := fun u hu => by
    rw [decide_eq_decide]; exact ⟨fun h => lt_of_le_of_ne h hu.symm, le_of_lt⟩
  unfold Four.map Four.num at n1 n2
  dsimp only at n1 n2
  rw [e _ ha, e _ hb, e _ hc, e _ hd, n2] at n1
  omega

variable {ι : Type} [Fintype ι]

/-- The greatest of `p` below `t`. -/
def nxt (p : ι → α) (t : α) : α := Finset.univ.sup fun i => if p i < t then p i else ⊥

/-- A member with nothing between it and `t` is the greatest below `t`. -/
theorem nxt_eq (p : ι → α) (t v : α) (hv : v < t) (hi : ∃ i, p i = v) (h : ∀ i, p i < t → p i ≤ v) : nxt p t = v := by
  obtain ⟨i, hi⟩ := hi
  refine le_antisymm (Finset.sup_le fun j _ => ?_) ?_
  · split
    · exact h j ‹_›
    · exact bot_le
  · have := Finset.le_sup (f := fun i => if p i < t then p i else ⊥) (Finset.mem_univ i)
    rwa [hi, if_pos hv] at this

/-- A member that nothing exceeds is the greatest. -/
theorem top_eq (p : ι → α) (v : α) (hi : ∃ i, p i = v) (h : ∀ i, p i ≤ v) : Finset.univ.sup p = v := by
  obtain ⟨i, hi⟩ := hi
  exact le_antisymm (Finset.sup_le fun j _ => h j) (hi ▸ Finset.le_sup (f := p) (Finset.mem_univ i))

/-- One pass: from lanes whose four greatest distinct values are `v 0 > v 1 > v 2 > v 3`, the four rounds over the
    lanes' fours end at `v 3`. -/
theorem pass_eq (x : Fin 128 → Fin 32 → α) (p : ι → α)
    (hp : ∀ w, (∃ i, p i = w) ↔ ∃ l, (accN max min ⊥ (x l) 8 le_rfl).Has w) (v : ℕ → α)
    (hbot : ⊥ < v 3) (hdesc : ∀ i < 3, v (i + 1) < v i) (hat : ∀ i < 4, ∃ l k, x l k = v i)
    (htop : ∀ l k, x l k ≤ v 0) (hnext : ∀ i < 3, ∀ l k, x l k < v i → x l k ≤ v (i + 1))
    (hfew : ∀ l, ∃ T : Finset (Fin 32), T.card ≤ 3 ∧ ∀ k, v 3 < x l k → k ∈ T) :
    nxt p (nxt p (nxt p (Finset.univ.sup p))) = v 3 := by
  have d0 := hdesc 0 (by omega)
  have d1 := hdesc 1 (by omega)
  have d2 := hdesc 2 (by omega)
  have hge : ∀ i < 4, v 3 ≤ v i := fun i hi => by
    have : i = 0 ∨ i = 1 ∨ i = 2 ∨ i = 3 := by omega
    rcases this with rfl | rfl | rfl | rfl
    · exact ((d2.trans d1).trans d0).le
    · exact (d2.trans d1).le
    · exact d2.le
    · exact le_rfl
  have hin : ∀ i < 4, ∃ j, p j = v i := fun i hi => by
    obtain ⟨l, k, hk⟩ := hat i hi
    obtain ⟨T, hT, hx⟩ := hfew l
    exact (hp _).mpr ⟨l, accN_has (x l) (v i) (hbot.trans_le (hge i hi)) k hk T hT fun k' h => hx k' ((hge i hi).trans_lt h)⟩
  have hfrom : ∀ Q : α → Prop, Q ⊥ → (∀ l k, Q (x l k)) → ∀ j, Q (p j) := fun Q q0 qx j => by
    obtain ⟨l, hl⟩ := (hp (p j)).mp ⟨j, rfl⟩
    obtain ⟨ha, hb, hc, hd⟩ := accN_from Q q0 (x l) (qx l) 8 le_rfl
    rcases hl with e | e | e | e <;> rw [← e] <;> assumption
  have hn : ∀ i < 3, ∀ j, p j < v i → p j ≤ v (i + 1) := fun i hi =>
    hfrom (fun u => u < v i → u ≤ v (i + 1)) (fun _ => bot_le) (hnext i hi)
  rw [top_eq p (v 0) (hin 0 (by omega)) (hfrom (· ≤ v 0) bot_le htop),
    nxt_eq p (v 0) (v 1) d0 (hin 1 (by omega)) (hn 0 (by omega)),
    nxt_eq p (v 1) (v 2) d1 (hin 2 (by omega)) (hn 1 (by omega)),
    nxt_eq p (v 2) (v 3) d2 (hin 3 (by omega)) (hn 2 (by omega))]

end order

/-! ## A row in descending order -/

section row
variable {α : Type} [LinearOrder α] [OrderBot α]

/-- Column `l` of chunk `k`. -/
def col (l : Fin 128) (k : Fin 32) : Fin 4096 := ⟨128 * k.val + l.val, by omega⟩

/-- Row `s` listed by `π` in descending order, its first thirteen values distinct. -/
structure Ranked (s : Fin 4096 → α) (π : Fin 4096 → Fin 4096) : Prop where
  onto : Function.Surjective π
  inj : Function.Injective π
  desc : ∀ i j, i ≤ j → s (π j) ≤ s (π i)
  strict : ∀ i (h : i < 12), s (π ⟨i + 1, by omega⟩) < s (π ⟨i, by omega⟩)

/-- The `i`-th value of the list. -/
def nth (s : Fin 4096 → α) (π : Fin 4096 → Fin 4096) (i : ℕ) : α := if h : i < 4096 then s (π ⟨i, h⟩) else ⊥

/-- The row with what is not below `u` replaced by the least element. -/
def under (s : Fin 4096 → α) (u : α) (j : Fin 4096) : α := if s j < u then s j else ⊥

variable {s : Fin 4096 → α} {π : Fin 4096 → Fin 4096}

/-- Inside the row the `i`-th value is read from the list. -/
theorem nth_of (i : ℕ) (h : i < 4096) : nth s π i = s (π ⟨i, h⟩) := dif_pos h

/-- Each of the first twelve values is above the one after it. -/
theorem Ranked.lt (hr : Ranked s π) (i : ℕ) (h : i < 12) : nth s π (i + 1) < nth s π i := by
  rw [nth_of i (by omega), nth_of (i + 1) (by omega)]; exact hr.strict i h

/-- A place listed at or after the `i`-th holds at most the `i`-th value. -/
theorem Ranked.le_of (hr : Ranked s π) (i : ℕ) (h : i < 4096) (q : Fin 4096) (hq : i ≤ q.val) : s (π q) ≤ nth s π i := by
  rw [nth_of i h]; exact hr.desc _ _ hq

/-- A place listed at or before the `i`-th holds at least the `i`-th value. -/
theorem Ranked.ge_of (hr : Ranked s π) (i : ℕ) (h : i < 4096) (q : Fin 4096) (hq : q.val ≤ i) : nth s π i ≤ s (π q) := by
  rw [nth_of i h]; exact hr.desc _ _ hq

/-- Nothing in the row is above the first value. -/
theorem Ranked.le_zero (hr : Ranked s π) (j : Fin 4096) : s j ≤ nth s π 0 := by
  obtain ⟨q, rfl⟩ := hr.onto j; exact hr.le_of 0 (by omega) q (Nat.zero_le _)

/-- What is below the `i`-th value is at most the next. -/
theorem Ranked.next (hr : Ranked s π) (i : ℕ) (h : i < 12) (j : Fin 4096) (hj : s j < nth s π i) : s j ≤ nth s π (i + 1) := by
  obtain ⟨q, rfl⟩ := hr.onto j
  refine hr.le_of _ (by omega) q ?_
  by_contra hq
  exact absurd hj (not_lt.mpr (hr.ge_of i (by omega) q (by omega)))

/-- The first twelve values are above the least element. -/
theorem Ranked.bot_lt (hr : Ranked s π) (i : ℕ) (h : i < 12) : ⊥ < nth s π i := lt_of_le_of_lt bot_le (hr.lt i h)

/-- Three places of the list meet a lane's chunks at most three times. -/
theorem few (hr : Ranked s π) (b : ℕ) (hb : b + 3 ≤ 12) (P : Fin 4096 → Prop)
    (hP : ∀ q : Fin 4096, P (π q) → b ≤ q.val ∧ q.val < b + 3) (l : Fin 128) :
    ∃ T : Finset (Fin 32), T.card ≤ 3 ∧ ∀ k, P (col l k) → k ∈ T := by
  classical
  have hinj : Function.Injective (col l) := fun k k' e => by
    have := congrArg Fin.val e
    apply Fin.ext
    change 128 * k.val + l.val = 128 * k'.val + l.val at this
    omega
  let U : Finset (Fin 4096) := (Finset.range 3).image fun i => π ⟨(b + i) % 4096, Nat.mod_lt _ (by decide)⟩
  refine ⟨Finset.univ.filter fun k => col l k ∈ U, ?_, fun k hk => ?_⟩
  · calc (Finset.univ.filter fun k => col l k ∈ U).card
        = ((Finset.univ.filter fun k => col l k ∈ U).image (col l)).card := (Finset.card_image_of_injective _ hinj).symm
      _ ≤ U.card := Finset.card_le_card fun j hj => by
          obtain ⟨k, hk, rfl⟩ := Finset.mem_image.mp hj
          exact (Finset.mem_filter.mp hk).2
      _ ≤ (Finset.range 3).card := Finset.card_image_le
      _ = 3 := rfl
  · obtain ⟨q, hq⟩ := hr.onto (col l k)
    obtain ⟨h1, h2⟩ := hP q (by rw [hq]; exact hk)
    refine Finset.mem_filter.mpr ⟨Finset.mem_univ _, Finset.mem_image.mpr ⟨q.val - b, Finset.mem_range.mpr (by omega), ?_⟩⟩
    rw [← hq]
    congr 1
    apply Fin.ext
    show (b + (q.val - b)) % 4096 = q.val
    have := q.isLt
    omega

variable {ι : Type} [Fintype ι]

/-- The first pass ends at the row's fourth value. -/
theorem pass_first (hr : Ranked s π) (p : ι → α)
    (hp : ∀ w, (∃ i, p i = w) ↔ ∃ l, (accN max min ⊥ (fun k => s (col l k)) 8 le_rfl).Has w) :
    nxt p (nxt p (nxt p (Finset.univ.sup p))) = nth s π 3 := by
  have hcol : ∀ j : Fin 4096, ∃ l k, col l k = j := fun j =>
    ⟨⟨j.val % 128, Nat.mod_lt _ (by decide)⟩, ⟨j.val / 128, by omega⟩, Fin.ext (by show 128 * (j.val / 128) + j.val % 128 = j.val; omega)⟩
  refine pass_eq (fun l k => s (col l k)) p hp (nth s π) (hr.bot_lt 3 (by omega)) (fun i hi => hr.lt i (by omega)) (fun i hi => ?_)
    (fun l k => hr.le_zero _) (fun i hi l k h => hr.next i (by omega) _ h) (fun l => ?_)
  · obtain ⟨l, k, e⟩ := hcol (π ⟨i, by omega⟩)
    exact ⟨l, k, by rw [e, nth_of i (by omega)]⟩
  · refine few hr 0 (by omega) (fun j => nth s π 3 < s j) (fun q hq => ⟨Nat.zero_le _, ?_⟩) l
    by_contra h
    exact absurd hq (not_lt.mpr (hr.le_of 3 (by omega) q (by omega)))

/-- A later pass, on the row under its `b`-th value, ends four places on. -/
theorem pass_later (hr : Ranked s π) (b : ℕ) (hb : b + 4 < 12) (p : ι → α)
    (hp : ∀ w, (∃ i, p i = w) ↔ ∃ l, (accN max min ⊥ (fun k => under s (nth s π b) (col l k)) 8 le_rfl).Has w) :
    nxt p (nxt p (nxt p (Finset.univ.sup p))) = nth s π (b + 4) := by
  have hcol : ∀ j : Fin 4096, ∃ l k, col l k = j := fun j =>
    ⟨⟨j.val % 128, Nat.mod_lt _ (by decide)⟩, ⟨j.val / 128, by omega⟩, Fin.ext (by show 128 * (j.val / 128) + j.val % 128 = j.val; omega)⟩
  have hlow : ∀ i : ℕ, i < 4 → nth s π (b + 1 + i) < nth s π b := fun i => by
    induction i with
    | zero => intro _; exact hr.lt b (by omega)
    | succ i ih => intro h; exact (hr.lt (b + 1 + i) (by omega)).trans (ih (by omega))
  refine pass_eq (fun l k => under s (nth s π b) (col l k)) p hp (fun i => nth s π (b + 1 + i)) (hr.bot_lt _ (by omega)) (fun i hi => hr.lt (b + 1 + i) (by omega)) (fun i hi => ?_)
    (fun l k => ?_) (fun i hi l k h => ?_) (fun l => ?_)
  · obtain ⟨l, k, e⟩ := hcol (π ⟨b + 1 + i, by omega⟩)
    refine ⟨l, k, ?_⟩
    have hv : s (col l k) = nth s π (b + 1 + i) := by rw [e, nth_of _ (by omega)]
    show (if s (col l k) < nth s π b then s (col l k) else ⊥) = nth s π (b + 1 + i)
    rw [hv, if_pos (hlow i hi)]
  · show (if s (col l k) < nth s π b then s (col l k) else ⊥) ≤ nth s π (b + 1)
    split
    · exact hr.next b (by omega) _ ‹_›
    · exact bot_le
  · change (if s (col l k) < nth s π b then s (col l k) else ⊥) < nth s π (b + 1 + i) at h
    show (if s (col l k) < nth s π b then s (col l k) else ⊥) ≤ nth s π (b + 1 + i + 1)
    split
    · rename_i hc
      rw [if_pos hc] at h
      exact hr.next _ (by omega) _ h
    · exact bot_le
  · refine few hr (b + 1) (by omega) (fun j => nth s π (b + 1 + 3) < (if s j < nth s π b then s j else ⊥)) (fun q hq => ?_) l
    by_cases hc : s (π q) < nth s π b
    · rw [if_pos hc] at hq
      constructor
      · by_contra h
        exact absurd hc (not_lt.mpr (hr.ge_of b (by omega) q (by omega)))
      · by_contra h
        exact absurd hq (not_lt.mpr (hr.le_of (b + 1 + 3) (by omega) q (by omega)))
    · rw [if_neg hc] at hq
      exact absurd hq not_lt_bot

/-- The places at or above the twelfth value are the first twelve of the list. -/
theorem Ranked.ge_iff (hr : Ranked s π) (q : Fin 4096) : nth s π 11 ≤ s (π q) ↔ q.val < 12 := by
  constructor
  · intro h
    by_contra hq
    exact absurd ((hr.le_of 12 (by omega) q (by omega)).trans_lt (hr.lt 11 (by omega))) (not_lt.mpr h)
  · intro h
    exact hr.ge_of 11 (by omega) q (by omega)

end row

/-- A sum over the places at or above the twelfth value is the sum over the first twelve of the list. -/
theorem sum_kept {s : Fin 4096 → EReal} {π : Fin 4096 → Fin 4096} (hr : Ranked s π) (f : Fin 4096 → EReal) :
    (∑ j, (if nth s π 11 ≤ s j then s j else 0) * f j)
      = ∑ q : Fin 12, f (π ⟨q.val, by omega⟩) * s (π ⟨q.val, by omega⟩) := by
  have e : (∑ j, (if nth s π 11 ≤ s j then s j else 0) * f j) = ∑ q, (if nth s π 11 ≤ s (π q) then s (π q) else 0) * f (π q) :=
    (Function.Bijective.sum_comp ⟨hr.inj, hr.onto⟩ fun j => (if nth s π 11 ≤ s j then s j else 0) * f j).symm
  rw [e]
  have hsub : Function.Injective (fun q : Fin 12 => (⟨q.val, by omega⟩ : Fin 4096)) := fun a b h => Fin.ext (Fin.mk.inj h)
  rw [← Finset.sum_subset (Finset.subset_univ (Finset.univ.image fun q : Fin 12 => (⟨q.val, by omega⟩ : Fin 4096))),
    Finset.sum_image fun a _ b _ h => hsub h]
  · refine Finset.sum_congr rfl fun q _ => ?_
    rw [if_pos ((hr.ge_iff _).mpr q.isLt), mul_comm]
  · intro q _ hq
    rw [if_neg, zero_mul]
    intro h
    exact hq (Finset.mem_image.mpr ⟨⟨q.val, (hr.ge_iff q).mp h⟩, Finset.mem_univ _, rfl⟩)

end Cert.Knn

end
-- ==== Proof.Read.lean ====
/- The kernel's block value at an index, over the extended reals. -/
module

public import proofs.«01_k».proof.Proof.Pick
public import Idealize.ShloMosaic.Lib.Pointwise

@[expose] public section

noncomputable section

namespace Cert.Knn

open Cert.KernelIdeal Cert.KernelIdeal.Gen Idealize.ShloMosaic Idealize.ShloMosaic.TcCoe

/-! ## A row of unit length -/

/-- The reference's small number. -/
def eps : ℝ := 8796093 / 8796093022208

/-- What the reference's literal denotes. -/
theorem eps_bits : Ideal.ofBits .f32 0x358637BD#32 = (eps : EReal) := by
  unfold eps
  simp [Ideal.ofBits, Ideal.ieee, -EReal.coe_mul]; norm_num

/-- The least value's pattern. -/
theorem low_bits : Ideal.ofBits .f32 0xFF800000#32 = (⊥ : EReal) := by
  simp [Ideal.ofBits, Ideal.ieee]

/-- A row's length, at least the small number. -/
def len (x : Fin 64 → EReal) : EReal := max (Ideal.sqrt (∑ i, x i * x i)) (eps : EReal)

/-- A row over its length. -/
def unit (x : Fin 64 → EReal) (i : Fin 64) : EReal := Ideal.div (x i) (len x)

/-- Multiplying by the reciprocal root of the larger of a sum and `e²` is dividing by the larger of its root and `e`. -/
theorem rsqrt_max (x S : EReal) (hS : 0 ≤ S) (e : ℝ) (he : 0 < e) :
    x * Ideal.rsqrt (max S ((e ^ 2 : ℝ) : EReal)) = Ideal.div x (max (Ideal.sqrt S) (e : EReal)) := by
  induction S using EReal.rec with
  | bot => exact absurd hS (by simp)
  | top =>
    have h1 : max (⊤ : EReal) ((e ^ 2 : ℝ) : EReal) = ⊤ := max_eq_left le_top
    have h2 : max (⊤ : EReal) (e : EReal) = ⊤ := max_eq_left le_top
    rw [h1]
    show x * 0 = Ideal.div x (max ⊤ (e : EReal))
    rw [h2, Ideal.div, if_neg (by simp)]
    simp
  | coe r =>
    have hr : 0 ≤ r := EReal.coe_nonneg.mp hS
    have h1 : max (r : EReal) ((e ^ 2 : ℝ) : EReal) = ((max r (e ^ 2) : ℝ) : EReal) := (EReal.coe_strictMono.monotone.map_max).symm
    have h2 : Ideal.sqrt (r : EReal) = (Real.sqrt r : EReal) := if_neg (not_lt.mpr hr)
    have h3 : max (Real.sqrt r : EReal) (e : EReal) = ((max (Real.sqrt r) e : ℝ) : EReal) := (EReal.coe_strictMono.monotone.map_max).symm
    have hm : 0 < max r (e ^ 2) := lt_max_of_lt_right (by positivity)
    have h4 : Real.sqrt (max r (e ^ 2)) = max (Real.sqrt r) e := by
      rw [Monotone.map_max (fun _ _ h => Real.sqrt_le_sqrt h), Real.sqrt_sq he.le]
    have h5 : Ideal.rsqrt ((max r (e ^ 2) : ℝ) : EReal) = (((max (Real.sqrt r) e)⁻¹ : ℝ) : EReal) := by
      show (if max r (e ^ 2) < 0 then (⊥ : EReal) else if max r (e ^ 2) = 0 then ⊤ else ((Real.sqrt (max r (e ^ 2)))⁻¹ : ℝ)) = _
      rw [if_neg (not_lt.mpr hm.le), if_neg hm.ne', h4]
    have hp : (0 : ℝ) < max (Real.sqrt r) e := lt_max_of_lt_right he
    rw [h1, h2, h3, h5, Ideal.div, if_neg (by exact_mod_cast hp.ne'), EReal.coe_inv]

/-- A square is not negative. -/
theorem sq_nonneg' (x : EReal) : 0 ≤ x * x := by
  rcases le_total 0 x with h | h
  · exact EReal.mul_nonneg h h
  · rw [← neg_mul_neg]
    exact EReal.mul_nonneg (EReal.neg_nonneg.mpr h) (EReal.neg_nonneg.mpr h)

/-- The kernel's named small number is the square of the reference's. -/
theorem eps_sq : Named.named (F := Ideal) (φ := .f32) κ "eps_sq" 0x2B8CBCCC#32 = ((eps ^ 2 : ℝ) : EReal) := by
  refine (IdealRules.named_const.ideal_named_scalar κ "eps_sq" _ _ rfl).trans ?_
  congr 1
  norm_num [eps]

/-- The kernel's normalization is the reference's. -/
theorem unit_eq (x : Fin 64 → EReal) (i : Fin 64) :
    x i * Ideal.rsqrt (max (∑ i, x i * x i) (Named.named (F := Ideal) (φ := .f32) κ "eps_sq" 0x2B8CBCCC#32)) = unit x i := by
  rw [eps_sq]
  exact rsqrt_max _ _ (Finset.sum_nonneg fun i _ => sq_nonneg' _) eps (by norm_num [eps])

/-! ## The rounds at a row -/

/-- A row's maximum is the greatest of its columns. -/
theorem rowMax_at (p : FVec Ideal S512x512 .f32) (r : Fin 512) (l : Fin 1) :
    rowMax p (ix2 r l) = Finset.univ.sup fun c : Fin 512 => p (ix2 r c) := by
  pointwise [rowMax]
  rw [low_bits]
  rfl

/-- A pool under a threshold, at an index. -/
theorem belowP_at (t : FVec Ideal S512x1 .f32) (p : FVec Ideal S512x512 .f32) (r : Fin 512) (c : Fin 512) :
    belowP t p (ix2 r c) = if p (ix2 r c) < t (ix2 r 0) then p (ix2 r c) else ⊥ := by
  pointwise [belowP]
  rw [low_bits]

/-- A chunk under a threshold, at an index. -/
theorem below_at (t : FVec Ideal S512x1 .f32) (x : FVec Ideal S512x128 .f32) (r : Fin 512) (c : Fin 128) :
    below t x (ix2 r c) = if x (ix2 r c) < t (ix2 r 0) then x (ix2 r c) else ⊥ := by
  pointwise [below, lows]
  rw [low_bits]

/-- A chunk at an index. -/
theorem chunk_at (v : FVec Ideal S512x4096 .f32) (k : Fin 32) (r : Fin 512) (c : Fin 128) :
    chunk v k (ix2 r c) = v (ix2 r (col c k)) := by
  pointwise [chunk]
  rfl

/-- The greatest below a threshold, as the kernel takes it. -/
theorem round_at (t : FVec Ideal S512x1 .f32) (p : FVec Ideal S512x512 .f32) (r : Fin 512) :
    rowMax (belowP t p) (ix2 r 0) = nxt (fun c : Fin 512 => p (ix2 r c)) (t (ix2 r 0)) := by
  rw [rowMax_at]
  simp only [belowP_at]
  rfl

/-- The four rounds at a row. -/
theorem thr_at (p : FVec Ideal S512x512 .f32) (r : Fin 512) :
    thr p (ix2 r 0) = nxt (fun c : Fin 512 => p (ix2 r c)) (nxt (fun c : Fin 512 => p (ix2 r c)) (nxt (fun c : Fin 512 => p (ix2 r c))
      (Finset.univ.sup fun c : Fin 512 => p (ix2 r c)))) := by
  rw [thr, round_at, round_at, round_at, rowMax_at]

/-- What a row of the pool holds: the members of its lanes' fours. -/
theorem pool_at (s : Four (FVec Ideal S512x128 .f32)) (r : Fin 512) (w : EReal) :
    (∃ c : Fin 512, pool s (ix2 r c) = w) ↔ ∃ l : Fin 128, (s.map fun v => v (ix2 r l)).Has w := by
  have e : ∀ c : Fin 512, pool s (ix2 r c) = if h : c.val < 128 then s.a (ix2 r ⟨c.val, h⟩)
      else if h : c.val - 128 < 128 then s.b (ix2 r ⟨c.val - 128, h⟩)
      else if h : c.val - 128 - 128 < 128 then s.c (ix2 r ⟨c.val - 128 - 128, h⟩)
      else s.d (ix2 r ⟨c.val - 128 - 128 - 128, by omega⟩) := fun c => by
    pointwise [pool]
  simp only [e]
  constructor
  · rintro ⟨c, h⟩
    split at h
    · exact ⟨_, .inl h⟩
    · split at h
      · exact ⟨_, .inr (.inl h)⟩
      · split at h
        · exact ⟨_, .inr (.inr (.inl h))⟩
        · exact ⟨_, .inr (.inr (.inr h))⟩
  · rintro ⟨l, h | h | h | h⟩
    · exact ⟨⟨l.val, by omega⟩, by rw [dif_pos l.isLt]; exact h⟩
    · refine ⟨⟨l.val + 128, by omega⟩, ?_⟩
      rw [dif_neg (by simp), dif_pos (by simp)]
      simpa [Four.map] using h
    · refine ⟨⟨l.val + 128 + 128, by omega⟩, ?_⟩
      rw [dif_neg (by simp), dif_neg (by simp), dif_pos (by simp)]
      simpa [Four.map] using h
    · refine ⟨⟨l.val + 128 + 128 + 128, by omega⟩, ?_⟩
      rw [dif_neg (by simp), dif_neg (by simp), dif_neg (by simp)]
      simpa [Four.map] using h

/-- The vector network, at a lane, is the network on the lane. -/
theorem acc_at (x : Fin 32 → FVec Ideal S512x128 .f32) (r : Fin 512) (l : Fin 128) :
    (accN maximumf minimumf lows x 8 le_rfl).map (fun v => v (ix2 r l))
      = accN max min (⊥ : EReal) (fun k => x k (ix2 r l)) 8 le_rfl := by
  have h := accN_map (mx := maximumf (F := Ideal) (φ := .f32) (s := S512x128)) (mn := minimumf) (mx' := max (α := EReal)) (mn' := min)
    (fun v : FVec Ideal S512x128 .f32 => v (ix2 r l)) (fun _ _ => rfl) (fun _ _ => rfl) lows x 8 le_rfl
  rw [h]
  have z : lows (F := Ideal) (ix2 r l) = (⊥ : EReal) := low_bits
  rw [z]

/-- What a pass leaves at a row, from what its chunks hold there. -/
theorem pass_at (x : Fin 32 → FVec Ideal S512x128 .f32) (r : Fin 512) (y : Fin 4096 → EReal) (w : EReal)
    (hx : ∀ k l, x k (ix2 r l) = y (col l k))
    (h : ∀ p : Fin 512 → EReal, (∀ u, (∃ i, p i = u) ↔ ∃ l, (accN max min ⊥ (fun k => y (col l k)) 8 le_rfl).Has u) →
      nxt p (nxt p (nxt p (Finset.univ.sup p))) = w) : passOf x (ix2 r 0) = w := by
  rw [passOf, thr_at]
  refine h _ fun u => (pool_at _ r u).trans (exists_congr fun l => ?_)
  rw [acc_at]
  simp only [hx]

/-- What the kernel keeps of a row: the values at or above the twelfth. -/
theorem kept_at (v : FVec Ideal S512x4096 .f32) (r : Fin 512) (c : Fin 4096) (π : Fin 4096 → Fin 4096)
    (hr : Ranked (fun j => v (ix2 r j)) π) :
    kept v (ix2 r c) = if nth (fun j => v (ix2 r j)) π 11 ≤ v (ix2 r c) then v (ix2 r c) else 0 := by
  have h1 : passOf (chunk v) (ix2 r 0) = nth (fun j => v (ix2 r j)) π 3 :=
    pass_at _ r (fun j => v (ix2 r j)) _ (fun k l => chunk_at v k r l) fun p hp => pass_first hr p hp
  have h2 : passOf (fun k => below (passOf (chunk v)) (chunk v k)) (ix2 r 0) = nth (fun j => v (ix2 r j)) π 7 :=
    pass_at _ r (under (fun j => v (ix2 r j)) (nth (fun j => v (ix2 r j)) π 3)) _
      (fun k l => by rw [below_at, chunk_at, h1]; rfl) fun p hp => pass_later hr 3 (by omega) p hp
  have h3 : passOf (fun k => below (passOf (fun k => below (passOf (chunk v)) (chunk v k))) (chunk v k)) (ix2 r 0)
      = nth (fun j => v (ix2 r j)) π 11 :=
    pass_at _ r (under (fun j => v (ix2 r j)) (nth (fun j => v (ix2 r j)) π 7)) _
      (fun k l => by rw [below_at, chunk_at, h2]; rfl) fun p hp => pass_later hr 7 (by omega) p hp
  rw [← h3]
  pointwise [kept]

/-! ## The block's value -/

/-- The similarity of two rows. -/
def sim (q k : Fin 64 → EReal) : EReal := ∑ x, unit q x * unit k x

/-- A normalized key at an index. -/
theorem pay2_at (k : FVec Ideal S1x4096x64 .f32) (r : Fin 4096) (c : Fin 64) :
    k0_pay2 (F := Ideal) k (ix2 r c) = unit (fun i => k (ix3 0 r i)) c := by
  rw [← unit_eq]
  pointwise [k0_pay2]

/-- A similarity at an index. -/
theorem pay4_at (q : FVec Ideal S1x512x64 .f32) (k : FVec Ideal S1x4096x64 .f32) (r : Fin 512) (c : Fin 4096) :
    k0_pay4 (F := Ideal) q (k0_pay2 (F := Ideal) k) (ix2 r c) = sim (fun i => q (ix3 0 r i)) (fun i => k (ix3 0 c i)) := by
  unfold sim
  simp only [← unit_eq (fun i => q (ix3 0 r i)), ← pay2_at]
  pointwise [k0_pay4]

/-- The gate's value. -/
def gateV (g : EReal) : EReal := Ideal.div 1 (1 + Ideal.exp (-g))

/-- A block's value at an index, when the row of similarities is listed by `π`. -/
theorem outV_at (g : Ideal .f32) (x1 : FVec Ideal S1x512x64 .f32) (x2 x3 : FVec Ideal S1x4096x64 .f32)
    (x4 : FVec Ideal S1x512x64 .f32) (r : Fin 512) (c : Fin 64) (π : Fin 4096 → Fin 4096)
    (hr : Ranked (fun j => sim (fun i => x1 (ix3 0 r i)) (fun i => x2 (ix3 0 j i))) π) :
    outV (F := Ideal) g x1 (k0_pay2 (F := Ideal) x2) x3 x4 (ix3 0 r c)
      = gateV g * (∑ q : Fin 12, x3 (ix3 0 (π ⟨q.val, by omega⟩) c)
          * sim (fun i => x1 (ix3 0 r i)) (fun i => x2 (ix3 0 (π ⟨q.val, by omega⟩) i)))
        + (1 - gateV g) * x4 (ix3 0 r c) := by
  have hr' : Ranked (fun j => k0_pay4 (F := Ideal) x1 (k0_pay2 (F := Ideal) x2) (ix2 r j)) π := by simpa only [pay4_at] using hr
  have hk := fun j => kept_at _ r j π hr'
  have hz : ∀ u : Ideal .f32, Scalar.exp (0 - u) = Ideal.exp (-u) := fun u => congrArg Ideal.exp (zero_sub u)
  rw [← sum_kept hr fun j => x3 (ix3 0 j c)]
  pointwise [outV, k0_pay1, k0_pay461, k0_pay463, k0_pay3]
  simp only [hk, hz, pay4_at]
  rfl

end Cert.Knn

end
-- ==== Proof.Ref.lean ====
/- The reference's value at an index, over the extended reals. -/
module

public import proofs.«01_k».proof.Proof.Read
public import proofs.«01_k».proof.Proof.Gen.ReferenceIdeal.Run
public import proofs.«01_k».proof.Pre_untied
public import Idealize.ShloMosaic.Lib.SortFacts

@[expose] public section

noncomputable section

namespace Cert.Knn

open Cert.ReferenceIdeal Cert.ReferenceIdeal.Gen Idealize.ShloMosaic Idealize.ShloMosaic.TcCoe Idealize.SL.Sem

/-- Rows over their lengths, as the reference writes it. -/
def unitT (x : FVec Ideal S12x4096x64 .f32) : FVec Ideal S12x4096x64 .f32 :=
  Host.divf x (broadcastInDim S12x4096x64 ![0, 1, 2] bcast_S12x4096x1_S12x4096x64_0_1_2 (maximumf (Host.sqrt (broadcastInDim S12x4096x1 ![0, 1] bcast_S12x4096_S12x4096x1_0_1 (Host.reduceAdd (mulf x x) (constant S_ .f32 0x00000000#32) reducesTo_S12x4096x64_S12x4096_d2 h_S_))) (broadcastInDim S12x4096x1 ![] bcast_S_S12x4096x1 (constant S_ .f32 0x358637BD#32))))

/-- All similarities, as the reference writes them. -/
def simsT (q k : FVec Ideal S12x4096x64 .f32) : FVec Ideal S12x4096x4096 .f32 :=
  Host.dotGeneral dot_S12x4096x64_S12x4096x64_S12x4096x4096_2_2_1_1_0_0 none (unitT q) (unitT k)

/-- The reference's rows over their lengths, at an index. -/
theorem unitT_at (x : FVec Ideal S12x4096x64 .f32) (h : Fin 12) (r : Fin 4096) (i : Fin 64) :
    unitT x (ix3 h r i) = unit (fun i => x (ix3 h r i)) i := by
  pointwise [unitT]
  rw [eps_bits]
  rfl

/-- The reference's similarities, at an index. -/
theorem simsT_at (q k : FVec Ideal S12x4096x64 .f32) (h : Fin 12) (r c : Fin 4096) :
    simsT q k (ix3 h r c) = sim (fun i => q (ix3 h r i)) (fun i => k (ix3 h c i)) := by
  pointwise [simsT]
  simp only [unitT_at]
  rfl

/-! ## The descending order of a row -/

/-- The positions of a row, greatest value first. -/
def order (x : FVec Ideal S12x4096x4096 .f32) (h : Fin 12) (r : Fin 4096) : Fin 4096 → Fin 4096 :=
  sortedFrom fun k k' => FloatOps.cmpfTotal (F := Ideal) (φ := .f32) .gt (x (ix3 h r k)) (x (ix3 h r k')) == 1#1

/-- Moving along the last axis of a rank-three index. -/
theorem along_last {n : ℕ} (h : Fin 12) (r : Fin 4096) (q k : Fin n) :
    Shape.Idx.along (s := ⟨3, ![12, 4096, n]⟩) (ix3 h r q) (2 : Fin 3) k = ix3 h r k := by
  funext a
  match a with
  | ⟨0, _⟩ => rfl
  | ⟨1, _⟩ => rfl
  | ⟨2, _⟩ => rfl

/-- A listed value is the row's at the listed position. -/
theorem top_val (n : ℕ) (hn : n ≤ 4096) (x : FVec Ideal S12x4096x4096 .f32)
    (hs : S12x4096x4096.Slices (fun _ => 0) ⟨3, ![12, 4096, n]⟩) (h : Fin 12) (r : Fin 4096) (q : Fin n) :
    (Host.topK ⟨3, ![12, 4096, n]⟩ 2 (FloatOps.cmpfTotal .gt) x hs).1 (ix3 h r q) = x (ix3 h r (order x h r ⟨q.val, by omega⟩)) := by
  have e : (Host.topK ⟨3, ![12, 4096, n]⟩ 2 (FloatOps.cmpfTotal .gt) x hs).1 (ix3 h r q)
      = x (Shape.Idx.along (s := S12x4096x4096) (ix3 h r ⟨q.val, Nat.lt_of_lt_of_le q.isLt hn⟩) (2 : Fin 3) (sortedFrom (fun k k' : Fin 4096 =>
          FloatOps.cmpfTotal (F := Ideal) (φ := .f32) .gt (x (Shape.Idx.along (s := S12x4096x4096) (ix3 h r ⟨q.val, Nat.lt_of_lt_of_le q.isLt hn⟩) (2 : Fin 3) k))
            (x (Shape.Idx.along (s := S12x4096x4096) (ix3 h r ⟨q.val, Nat.lt_of_lt_of_le q.isLt hn⟩) (2 : Fin 3) k')) == 1#1) ⟨q.val, Nat.lt_of_lt_of_le q.isLt hn⟩)) := by
    pointwise [Host.topK, Host.sort2]
  rw [e]
  have a := fun k => along_last h r (⟨q.val, by omega⟩ : Fin 4096) k
  simp only [a]
  exact congrArg x (a _)

/-- A listed index is the listed position. -/
theorem top_idx (n : ℕ) (hn : n ≤ 4096) (x : FVec Ideal S12x4096x4096 .f32)
    (hs : S12x4096x4096.Slices (fun _ => 0) ⟨3, ![12, 4096, n]⟩) (h : Fin 12) (r : Fin 4096) (q : Fin n) :
    (Host.topK ⟨3, ![12, 4096, n]⟩ 2 (FloatOps.cmpfTotal .gt) x hs).2 (ix3 h r q) = BitVec.ofNat 32 (order x h r ⟨q.val, by omega⟩).val := by
  have e : (Host.topK ⟨3, ![12, 4096, n]⟩ 2 (FloatOps.cmpfTotal .gt) x hs).2 (ix3 h r q)
      = iotaInDim S12x4096x4096 32 (2 : Fin 3) (Shape.Idx.along (s := S12x4096x4096) (ix3 h r ⟨q.val, Nat.lt_of_lt_of_le q.isLt hn⟩) (2 : Fin 3) (sortedFrom (fun k k' : Fin 4096 =>
          FloatOps.cmpfTotal (F := Ideal) (φ := .f32) .gt (x (Shape.Idx.along (s := S12x4096x4096) (ix3 h r ⟨q.val, Nat.lt_of_lt_of_le q.isLt hn⟩) (2 : Fin 3) k))
            (x (Shape.Idx.along (s := S12x4096x4096) (ix3 h r ⟨q.val, Nat.lt_of_lt_of_le q.isLt hn⟩) (2 : Fin 3) k')) == 1#1) ⟨q.val, Nat.lt_of_lt_of_le q.isLt hn⟩)) := by
    pointwise [Host.topK, Host.sort2]
  rw [e]
  have a := fun k => along_last h r (⟨q.val, by omega⟩ : Fin 4096) k
  simp only [a]
  have b : ∀ p : Fin 4096, iotaInDim S12x4096x4096 32 (2 : Fin 3) (Shape.Idx.along (s := S12x4096x4096) (ix3 h r ⟨q.val, Nat.lt_of_lt_of_le q.isLt hn⟩) (2 : Fin 3) p)
      = BitVec.ofNat 32 p.val := fun p => by rw [a]; rfl
  exact b _

/-- The comparison of the order, as the order of the extended reals. -/
theorem gt_iff (a b : EReal) : (FloatOps.cmpfTotal (F := Ideal) (φ := .f32) .gt a b == 1#1) = decide (b < a) := by
  rw [Ideal.cmpfTotal_def]
  simp only [CmpDirection.ordered, Ideal.cmp]
  by_cases h : b < a <;> simp [h]

/-- Under the precondition, the order lists a row with its first thirteen values distinct. -/
theorem ranked (x : FVec Ideal S12x4096x4096 .f32) (h : Fin 12) (r : Fin 4096)
    (hx : ∀ i (hi : i < 12), x (ix3 h r (order x h r ⟨i + 1, by omega⟩)) < x (ix3 h r (order x h r ⟨i, by omega⟩))) :
    Ranked (fun j => x (ix3 h r j)) (order x h r) where
  onto := sortedFrom_surjective _
  inj := sortedFrom_injective _
  desc := fun i j hij => by
    rcases hij.eq_or_lt with rfl | hlt
    · exact le_rfl
    · have := sortedFrom_noInversion (fun k k' => FloatOps.cmpfTotal (F := Ideal) (φ := .f32) .gt (x (ix3 h r k)) (x (ix3 h r k')) == 1#1)
        (fun k k' => FloatOps.cmpfTotal (F := Ideal) (φ := .f32) .gt (x (ix3 h r k)) (x (ix3 h r k')) == 1#1)
        (fun a b => by simp only [gt_iff, decide_eq_true_eq, decide_eq_false_iff_not]; exact fun h => not_lt.mpr h.le) (fun a b h => h)
        (fun a b c => by simp only [gt_iff, decide_eq_false_iff_not, not_lt]; exact fun h1 h2 => h1.trans h2) i j hlt
      rw [gt_iff, decide_eq_false_iff_not, not_lt] at this
      exact this
  strict := hx

/-! ## The reference's value -/

/-- The rows taken at the listed indices, as the reference takes them. -/
def rowsT (v : FVec Ideal S12x4096x64 .f32) (idx : IVec S12x4096x12 32) : FVec Ideal S12x4096x12x64 .f32 :=
  Host.gather gather_S12x4096x64_S12x4096x12x1_S12x4096x12x64_3_1_0_0_1_3_1164 v (broadcastInDim S12x4096x12x1 ![0, 1, 2] bcast_S12x4096x12_S12x4096x12x1_0_1_2 (select (cmpi .slt idx (broadcastInDim S12x4096x12 ![] bcast_S_S12x4096x12 (constantI S_ 32 0#32))) (addi idx (broadcastInDim S12x4096x12 ![] bcast_S_S12x4096x12 (constantI S_ 32 4096#32))) idx))

/-- The reference's result from its five arguments. -/
def refOut (q k v : FVec Ideal S12x4096x64 .f32) (g : FVec Ideal S12 .f32) (o : FVec Ideal S2x12x2048x64 .f32) : FVec Ideal S2x12x2048x64 .f32 :=
  addf (mulf (broadcastInDim S2x12x2048x64 ![0, 1, 2, 3] bcast_S1x12x1x1_S2x12x2048x64_0_1_2_3 (shapeCast S1x12x1x1 (Host.divf (broadcastInDim S12 ![] bcast_S_S12 (constant S_ .f32 0x3F800000#32)) (addf (broadcastInDim S12 ![] bcast_S_S12 (constant S_ .f32 0x3F800000#32)) (Host.exp (Host.negf g)))) shapeCasts_S12_S1x12x1x1))
    (shapeCast S2x12x2048x64 (Host.reduceAdd (mulf (rowsT v (Host.topK S12x4096x12 2 (FloatOps.cmpfTotal .gt) (simsT q k) sliceFits_S12x4096x4096_S12x4096x12).2)
      (broadcastInDim S12x4096x12x64 ![0, 1, 2, 3] bcast_S12x4096x12x1_S12x4096x12x64_0_1_2_3 (broadcastInDim S12x4096x12x1 ![0, 1, 2] bcast_S12x4096x12_S12x4096x12x1_0_1_2 (Host.topK S12x4096x12 2 (FloatOps.cmpfTotal .gt) (simsT q k) sliceFits_S12x4096x4096_S12x4096x12).1)))
      (constant S_ .f32 0x00000000#32) reducesTo_S12x4096x12x64_S12x4096x64_d2 h_S_) shapeCasts_S12x4096x64_S2x12x2048x64))
    (mulf (broadcastInDim S2x12x2048x64 ![0, 1, 2, 3] bcast_S1x12x1x1_S2x12x2048x64_0_1_2_3 (subf (broadcastInDim S1x12x1x1 ![] bcast_S_S1x12x1x1 (constant S_ .f32 0x3F800000#32)) (shapeCast S1x12x1x1 (Host.divf (broadcastInDim S12 ![] bcast_S_S12 (constant S_ .f32 0x3F800000#32)) (addf (broadcastInDim S12 ![] bcast_S_S12 (constant S_ .f32 0x3F800000#32)) (Host.exp (Host.negf g)))) shapeCasts_S12_S1x12x1x1))) o)

/-- A row taken at an index in range is that row. -/
theorem rowsT_at (v : FVec Ideal S12x4096x64 .f32) (idx : IVec S12x4096x12 32) (h : Fin 12) (r : Fin 4096) (q : Fin 12) (d : Fin 64)
    (n : Fin 4096) (hn : idx (ix3 h r q) = BitVec.ofNat 32 n.val) : rowsT v idx (ix4 h r q d) = v (ix3 h n d) := by
  have hw : ∀ n : Fin 4096, IntOp.cmpi .slt (BitVec.ofNat 32 n.val) 0#32 = 0#1 ∧ min (BitVec.ofNat 32 n.val).toInt.toNat 4095 = n.val := by
    decide +kernel
  let w : IVec S12x4096x12x1 32 := broadcastInDim S12x4096x12x1 ![0, 1, 2] bcast_S12x4096x12_S12x4096x12x1_0_1_2 (select (cmpi .slt idx (broadcastInDim S12x4096x12 ![] bcast_S_S12x4096x12 (constantI S_ 32 0#32))) (addi idx (broadcastInDim S12x4096x12 ![] bcast_S_S12x4096x12 (constantI S_ 32 4096#32))) idx)
  have hi : w (ix4 h r q 0) = BitVec.ofNat 32 n.val := by
    have e : w (ix4 h r q 0) = if IntOp.cmpi .slt (idx (ix3 h r q)) 0#32 = 1#1 then idx (ix3 h r q) + 4096#32 else idx (ix3 h r q) := by
      pointwise [w]
      rfl
    rw [e, hn, (hw n).1, if_neg (by decide)]
  let D := gather_S12x4096x64_S12x4096x12x1_S12x4096x12x64_3_1_0_0_1_3_1164
  show v (gather_S12x4096x64_S12x4096x12x1_S12x4096x12x64_3_1_0_0_1_3_1164.operandIdx (ix4 h r q d) w) = v (ix3 h n d)
  congr 1
  funext a
  refine Fin.ext ?_
  show D.start (ix4 h r q d) w a + D.batchCoord (ix4 h r q d) a + D.offCoord (ix4 h r q d) a = _
  have ha : a = 0 ∨ a = 1 ∨ a = 2 := by
    match a with
    | ⟨0, _⟩ => exact .inl rfl
    | ⟨1, _⟩ => exact .inr (.inl rfl)
    | ⟨2, _⟩ => exact .inr (.inr rfl)
  rcases ha with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 3) ∈ D.operandBatchingDims from List.mem_singleton.mpr rfl)]
    rfl
  · rw [GatherDims.batchCoord_eq_zero _ _ _ (fun h => by simp [D, gather_S12x4096x64_S12x4096x12x1_S12x4096x12x64_3_1_0_0_1_3_1164] at h),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ D.startIndexMap from List.mem_singleton.mpr rfl)]
    have hsi : D.siIdx (ix4 h r q d) ⟨List.idxOf (1 : Fin 3) D.startIndexMap, List.idxOf_lt_length_iff.2 (List.mem_singleton.mpr rfl)⟩ = ix4 h r q 0 := by
      funext b
      refine Fin.ext ?_
      match b with
      | ⟨0, _⟩ => rfl
      | ⟨1, _⟩ => rfl
      | ⟨2, _⟩ => rfl
      | ⟨3, _⟩ => rfl
    rw [hsi, hi]
    exact (hw n).2
  · have hs : D.start (ix4 h r q d) w 2 = 0 := by
      unfold GatherDims.start
      exact dif_neg (by simp [D, gather_S12x4096x64_S12x4096x12x1_S12x4096x12x64_3_1_0_0_1_3_1164])
    rw [hs, GatherDims.batchCoord_eq_zero _ _ _ (fun h => by simp [D, gather_S12x4096x64_S12x4096x12x1_S12x4096x12x64_3_1_0_0_1_3_1164] at h)]
    simp only [Nat.zero_add]
    unfold GatherDims.offCoord
    rw [dif_pos ((GatherDims.mem_sKept _ _).mpr (by simp [D, gather_S12x4096x64_S12x4096x12x1_S12x4096x12x64_3_1_0_0_1_3_1164]))]
    rfl

/-- The reference's result at an index. -/
theorem refOut_at (q k v : FVec Ideal S12x4096x64 .f32) (g : FVec Ideal S12 .f32) (o : FVec Ideal S2x12x2048x64 .f32)
    (b : Fin 2) (h : Fin 12) (s : Fin 2048) (d : Fin 64) (H : Fin 12) (R : Fin 4096) (hH : H.val = b.val * 6 + h.val / 2)
    (hR : R.val = h.val % 2 * 2048 + s.val) :
    refOut q k v g o (ix4 b h s d)
      = gateV (g (ix1 h)) * (∑ t : Fin 12, v (ix3 H (order (simsT q k) H R ⟨t.val, by omega⟩) d)
          * simsT q k (ix3 H R (order (simsT q k) H R ⟨t.val, by omega⟩)))
        + (1 - gateV (g (ix1 h))) * o (ix4 b h s d) := by
  have hv := fun t => top_val 12 (by omega) (simsT q k) sliceFits_S12x4096x4096_S12x4096x12 H R t
  have hr := fun t => rowsT_at v _ H R t d _ (top_idx 12 (by omega) (simsT q k) sliceFits_S12x4096x4096_S12x4096x12 H R t)
  simp only [← hv, ← hr]
  have eH : ∀ p, (⟨b.val * 6 + h.val / 2, p⟩ : Fin 12) = H := fun _ => Fin.ext hH.symm
  have eR : ∀ p, (⟨h.val % 2 * 2048 + s.val, p⟩ : Fin 4096) = R := fun _ => Fin.ext hR.symm
  pointwise [refOut]
  simp only [eH, eR]
  rfl

/-- The reference's composed result is that function of its arguments. -/
theorem res_eq (m : (ℓ : Loc nD τ sig) → Buf (Elt Ideal) ℓ) (c : Dev nD) :
    Cert.ReferenceIdeal.Value.res_main_v38 (F := Ideal) m c
      = refOut (shapeCast S12x4096x64 (transpose S12x2x2048x64 [1, 0, 2, 3] (m ((c.tc : Thread nD τ).loc main_arg1)) transposes_S2x12x2048x64_S12x2x2048x64_1_0_2_3) shapeCasts_S12x2x2048x64_S12x4096x64)
          (m ((c.tc : Thread nD τ).loc main_arg6)) (m ((c.tc : Thread nD τ).loc main_arg7)) (m ((c.tc : Thread nD τ).loc main_arg5))
          (m ((c.tc : Thread nD τ).loc main_arg4)) := by
  unfold Cert.ReferenceIdeal.Value.res_main_v38
  rfl

/-! ## The precondition -/

/-- The shape facts the precondition's function is stated over. -/
theorem pre_facts : Cert.Pre_untied.Facts where
  transposes_S2x12x2048x64_S12x2x2048x64_1_0_2_3 := by decide
  shapeCasts_S12x2x2048x64_S12x4096x64 := by decide
  reducesTo_S12x4096x64_S12x4096_d2 := by decide
  h_S_ := by decide
  bcast_S12x4096_S12x4096x1_0_1 := by decide
  bcast_S_S12x4096x1 := by decide
  bcast_S12x4096x1_S12x4096x64_0_1_2 := by decide
  sliceFits_S12x4096x4096_S12x4096x13 := by decide
  slices_S12x4096x13_S12x4096x12_0_0_0 := by decide
  slices_S12x4096x13_S12x4096x12_0_0_1 := by decide
  dot_S12x4096x64_S12x4096x64_S12x4096x4096_2_2_1_1_0_0_wf := by decide

/-- Where the precondition holds, every row's first thirteen values are distinct. -/
theorem untied_ranked [Cert.Pre_untied.Facts] (a0 : FVec Ideal S2x2048x768 .f32) (a1 a2 a3 a4 : FVec Ideal S2x12x2048x64 .f32)
    (a5 : FVec Ideal S12 .f32) (a6 a7 : FVec Ideal S12x4096x64 .f32)
    (hp : Cert.Pre_untied.fn (F := Ideal) a0 a1 a2 a3 a4 a5 a6 a7 = fun _ => 1#1) (q : FVec Ideal S12x4096x64 .f32)
    (hq : q = shapeCast S12x4096x64 (transpose S12x2x2048x64 [1, 0, 2, 3] a1 transposes_S2x12x2048x64_S12x2x2048x64_1_0_2_3) shapeCasts_S12x2x2048x64_S12x4096x64)
    (h : Fin 12) (r : Fin 4096) :
    Ranked (fun j => simsT q a6 (ix3 h r j)) (order (simsT q a6) h r) := by
  refine ranked _ h r fun i hi => ?_
  subst hq
  have hc : ∀ (x : FVec Ideal ⟨3, ![12, 4096, 13]⟩ .f32), cmpf .ogt ((extractStridedSlice Cert.Pre_untied.S12x4096x12 ![0, 0, 0] · Cert.Pre_untied.Facts.slices_S12x4096x13_S12x4096x12_0_0_0) x)
      ((extractStridedSlice Cert.Pre_untied.S12x4096x12 ![0, 0, 1] · Cert.Pre_untied.Facts.slices_S12x4096x13_S12x4096x12_0_0_1) x) (ix3 h r ⟨i, hi⟩) = 1#1 →
      x (ix3 h r ⟨i + 1, by omega⟩) < x (ix3 h r ⟨i, by omega⟩) := fun x => by
    pointwise
    have e : (⟨1 + i, by omega⟩ : Fin 13) = ⟨i + 1, by omega⟩ := Fin.ext (Nat.add_comm _ _)
    rw [e]
    intro hb
    by_contra hn
    simp [hn] at hb
  have hf := hc _ (congrFun hp (ix3 h r ⟨i, hi⟩))
  have t0 := top_val 13 (by omega) (simsT (shapeCast S12x4096x64 (transpose S12x2x2048x64 [1, 0, 2, 3] a1 transposes_S2x12x2048x64_S12x2x2048x64_1_0_2_3) shapeCasts_S12x2x2048x64_S12x4096x64) a6)
    Cert.Pre_untied.Facts.sliceFits_S12x4096x4096_S12x4096x13 h r ⟨i, by omega⟩
  have t1 := top_val 13 (by omega) (simsT (shapeCast S12x4096x64 (transpose S12x2x2048x64 [1, 0, 2, 3] a1 transposes_S2x12x2048x64_S12x2x2048x64_1_0_2_3) shapeCasts_S12x2x2048x64_S12x4096x64) a6)
    Cert.Pre_untied.Facts.sliceFits_S12x4096x4096_S12x4096x13 h r ⟨i + 1, by omega⟩
  refine (t1.symm.trans_lt ?_).trans_eq t0
  exact hf

end Cert.Knn

end
-- ==== Proof.Final.lean ====
/- The array the kernel's grid fills is the reference's result, element by element. -/
module

public import proofs.«01_k».proof.Proof.Ref
public import proofs.«01_k».proof.Defs

@[expose] public section

noncomputable section

namespace Cert.Knn

open Cert.KernelIdeal Cert.KernelIdeal.Gen Idealize.ShloMosaic Idealize.ShloMosaic.TcCoe Idealize.SL.Sem

variable (m : (ℓ : Loc nD τ sig) → Buf (Elt Ideal) ℓ) (c : Dev nD)

/-- The keys. -/
def kOf : FVec Ideal S12x4096x64 .f32 := m ((c : Thread nD τ).loc main_arg6)
/-- The values. -/
def vOf : FVec Ideal S12x4096x64 .f32 := m ((c : Thread nD τ).loc main_arg7)
/-- The gates. -/
def gOf : FVec Ideal S12 .f32 := m ((c : Thread nD τ).loc main_arg5)
/-- The old outputs. -/
def oOf : FVec Ideal S2x12x2048x64 .f32 := m ((c : Thread nD τ).loc main_arg4)

/-- A vector as one column, at an index. -/
theorem col_at (g : FVec Ideal S12 .f32) (j : S12x1.Idx) : shapeCast S12x1 g shapeCasts_S12_S12x1 j = g (ix1 (j 0)) := by
  pointwise

/-- Rows per head read back as rows per batch and head. -/
theorem split_at (x : FVec Ideal S12x4096x64 .f32) (b : Fin 2) (h : Fin 12) (s : Fin 2048) (d : Fin 64) :
    shapeCast S2x12x2048x64 x shapeCasts_S12x4096x64_S2x12x2048x64 (ix4 b h s d)
      = x (ix3 ⟨b.val * 6 + h.val / 2, by omega⟩ ⟨h.val % 2 * 2048 + s.val, by omega⟩ d) := by
  pointwise

/-- Rows per batch and head read as rows per head. -/
theorem join_at (x : FVec Ideal S2x12x2048x64 .f32) (b : Fin 2) (h : Fin 12) (s : Fin 2048) (d : Fin 64) :
    shapeCast S12x4096x64 x shapeCasts_S2x12x2048x64_S12x4096x64
        (ix3 ⟨b.val * 6 + h.val / 2, by omega⟩ ⟨h.val % 2 * 2048 + s.val, by omega⟩ d) = x (ix4 b h s d) := by
  have e : ∀ (H : Fin 12) (R : Fin 4096), shapeCast S12x4096x64 x shapeCasts_S2x12x2048x64_S12x4096x64 (ix3 H R d)
      = x (ix4 ⟨H.val / 6, by omega⟩ ⟨H.val % 6 * 2 + R.val / 2048, by omega⟩ ⟨R.val % 2048, by omega⟩ d) := fun H R => by
    pointwise
  rw [e]
  congr 1
  funext a
  apply Fin.ext
  match a with
  | ⟨0, _⟩ => show (b.val * 6 + h.val / 2) / 6 = b.val; omega
  | ⟨1, _⟩ => show (b.val * 6 + h.val / 2) % 6 * 2 + (h.val % 2 * 2048 + s.val) / 2048 = h.val; omega
  | ⟨2, _⟩ => show (h.val % 2 * 2048 + s.val) % 2048 = s.val; omega
  | ⟨3, _⟩ => rfl

/-- The gate entry a point reads, from the point's number. -/
theorem off_at : ∀ t : Fin grid0.N, k0_off1 (grid0.coords t) 0 = (t.val / 8 * 2 + t.val % 8 / 4) % 12 := by
  decide +kernel

/-- The gate a point reads. -/
theorem gate_at (t : Fin grid0.N) (h : Fin 12) (ht : (t.val / 8 * 2 + t.val % 8 / 4) % 12 = h.val) :
    gateAt (grid0.coords t) (V m c main_call0_v3) = gOf m c (ix1 h) := by
  rw [V_g]
  refine (col_at (gOf m c) _).trans (congrArg (fun k => gOf m c (ix1 k)) (Fin.ext ?_))
  show k0_off1 (grid0.coords t) 0 = h.val
  rw [off_at, ht]

/-- The queries as rows per head. -/
def qOf : FVec Ideal S12x4096x64 .f32 := shapeCast S12x4096x64
    (transpose S12x2x2048x64 [1, 0, 2, 3] (m ((c : Thread nD τ).loc main_arg1)) transposes_S2x12x2048x64_S12x2x2048x64_1_0_2_3)
    shapeCasts_S12x2x2048x64_S12x4096x64

/-- The filled array at an index, when the row of similarities is listed by `π`. -/
theorem filled_at (H : Fin 12) (R : Fin 4096) (d : Fin 64) (h : Fin 12) (hh : (H.val * 2 + R.val / 2048) % 12 = h.val)
    (π : Fin 4096 → Fin 4096)
    (hr : Ranked (fun j => sim (fun i => qOf m c (ix3 H R i)) (fun i => kOf m c (ix3 H j i))) π) :
    (filled m c : FVec Ideal S12x4096x64 .f32) (ix3 H R d)
      = gateV (gOf m c (ix1 h))
          * (∑ q : Fin 12, vOf m c (ix3 H (π ⟨q.val, by omega⟩) d)
            * sim (fun i => qOf m c (ix3 H R i)) (fun i => kOf m c (ix3 H (π ⟨q.val, by omega⟩) i)))
        + (1 - gateV (gOf m c (ix1 h))) * (V m c main_call0_v2 : FVec Ideal S12x4096x64 .f32) (ix3 H R d) := by
  have eh : hd (ptOf H R) = H := Fin.ext (by show (H.val * 8 + R.val / 512) / 8 = H.val; omega)
  have er : row (ptOf H R) ⟨R.val % 512, Nat.mod_lt _ (by decide)⟩ = R :=
    Fin.ext (by show (H.val * 8 + R.val / 512) % 8 * 512 + R.val % 512 = R.val; omega)
  have eg : ((ptOf H R).val / 8 * 2 + (ptOf H R).val % 8 / 4) % 12 = h.val := by
    rw [← hh]; show ((H.val * 8 + R.val / 512) / 8 * 2 + (H.val * 8 + R.val / 512) % 8 / 4) % 12 = _; omega
  have ef : (filled m c : FVec Ideal S12x4096x64 .f32) (ix3 H R d)
      = (outsAt0 m c (ptOf H R).val (ptOf H R).isLt).1 (ix3 (0 : Fin 1) (⟨R.val % 512, Nat.mod_lt _ (by decide)⟩ : Fin 512) d) := by
    rw [ix3_eq_valueIdx, ix3_eq_valueIdx]; rfl
  have x1 : ∀ i, (iblk m c 1 (ptOf H R) : Vec Ideal S1x512x64 .f32) (ix3 0 ⟨R.val % 512, Nat.mod_lt _ (by decide)⟩ i) = qOf m c (ix3 H R i) := fun i => by
    rw [blk_q, V_q]
    show qOf m c (ValueIdx.ix3 (hd (ptOf H R)) (row (ptOf H R) ⟨R.val % 512, Nat.mod_lt _ (by decide)⟩) i) = _
    rw [eh, er, ix3_eq_valueIdx]
  have x2 : ∀ j i, keysOf m c (hd (ptOf H R)) (ix3 0 j i) = kOf m c (ix3 H j i) := fun j i => by
    unfold keysOf
    rw [V_main_arg6, eh, ix3_eq_valueIdx, ix3_eq_valueIdx]
    rfl
  have x3 : ∀ j i, valsOf m c (hd (ptOf H R)) (ix3 0 j i) = vOf m c (ix3 H j i) := fun j i => by
    unfold valsOf
    rw [V_main_arg7, eh, ix3_eq_valueIdx, ix3_eq_valueIdx]
    rfl
  have x4 : ∀ i, (iblk m c 4 (ptOf H R) : Vec Ideal S1x512x64 .f32) (ix3 0 ⟨R.val % 512, Nat.mod_lt _ (by decide)⟩ i) = (V m c main_call0_v2 : FVec Ideal S12x4096x64 .f32) (ix3 H R i) := fun i => by
    rw [blk_o]
    show (V m c main_call0_v2 : FVec Ideal S12x4096x64 .f32) (ValueIdx.ix3 (hd (ptOf H R)) (row (ptOf H R) ⟨R.val % 512, Nat.mod_lt _ (by decide)⟩) i) = _
    rw [eh, er, ix3_eq_valueIdx]
  rw [ef, left, gate_at m c _ h eg]
  refine (outV_at _ _ _ _ _ _ d π ?_).trans ?_
  · simp only [x1, x2]
    exact hr
  · simp only [x1, x2, x3, x4]

/-- The kernel's result is the reference's function of the arguments. -/
theorem out_eq (hp : ∀ (H : Fin 12) (R : Fin 4096), Ranked (fun j => simsT (qOf m c) (kOf m c) (ix3 H R j))
      (order (simsT (qOf m c) (kOf m c)) H R)) :
    shapeCast S2x12x2048x64 (filled m c : FVec Ideal S12x4096x64 .f32) shapeCasts_S12x4096x64_S2x12x2048x64
      = refOut (qOf m c) (kOf m c) (vOf m c) (gOf m c)
          (oOf m c) := by
  funext j
  obtain ⟨b, h, s, d, rfl⟩ : ∃ (b : Fin 2) (h : Fin 12) (s : Fin 2048) (d : Fin 64), j = ix4 b h s d := ⟨j 0, j 1, j 2, j 3, eq_ix4 j⟩
  have e2 : (V m c main_call0_v2 : FVec Ideal S12x4096x64 .f32) (ix3 ⟨b.val * 6 + h.val / 2, by omega⟩ ⟨h.val % 2 * 2048 + s.val, by omega⟩ d)
      = oOf m c (ix4 b h s d) := by
    rw [V_o]
    exact join_at (oOf m c) b h s d
  rw [split_at, refOut_at (qOf m c) _ _ _ _ b h s d ⟨b.val * 6 + h.val / 2, by omega⟩ ⟨h.val % 2 * 2048 + s.val, by omega⟩ rfl rfl]
  have hp' := hp ⟨b.val * 6 + h.val / 2, by omega⟩ ⟨h.val % 2 * 2048 + s.val, by omega⟩
  rw [filled_at m c _ _ d h (by show ((b.val * 6 + h.val / 2) * 2 + (h.val % 2 * 2048 + s.val) / 2048) % 12 = h.val; omega) _
    (by simpa only [simsT_at] using hp'), e2]
  simp only [simsT_at]

end Cert.Knn

end
-- ==== Proof.lean ====
/- The proof of the claims: the three frames, the sanctioned constant, and the equality of the kernel's results with the
   reference's over the extended reals. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Final
public import Idealize.ShloMosaic.Lib.Quiescent
public import Idealize.ShloMosaic.Adequacy
public import Idealize.ShloMosaic.Init

@[expose] public section

noncomputable section

namespace Cert.Proof

open Idealize.ShloMosaic Idealize.SL.Sem Idealize.ShloMosaic.TcCoe

attribute [local instance] Cert.Kernel.Gen.facts Cert.KernelIdeal.Gen.facts Cert.ReferenceIdeal.Gen.facts Cert.Knn.pre_facts

/-- The kernel runs, its arguments unchanged, every counter back at zero. -/
theorem frame_kernel : Cert.quiescent_Kernel := fun m g _ => Cert.Kernel.Gen.frame m g

/-- So does the kernel with its small number named. -/
theorem frame_ideal : Cert.quiescent_KernelIdeal := fun m g _ => Cert.KernelIdeal.Gen.frame m g

/-- So does the reference, which has no counter. -/
theorem frame_reference : Cert.quiescent_ReferenceIdeal := fun m g _ =>
  (θ_run _ _ _).mono (fun r h => ⟨fun c => (h c).2.2, sem_eq_zero_of_no_sems rfl _⟩) (Cert.ReferenceIdeal.Value.run m g)

/-- The named constant is what the table says. -/
theorem named : Cert.preserves_Kernel_KernelIdeal := IdealRules.named_const.statement _ _ _ _ _ rfl

/-- Where no row ties within its first thirteen similarities, the kernel's results are the reference's. -/
theorem equal : Cert.algebraic_KernelIdeal_ReferenceIdeal_pre_untied := fun m g m' g' hp ha => by
  refine ⟨fun c => shapeCast Cert.KernelIdeal.S2x12x2048x64 (Cert.Knn.filled m c) Cert.KernelIdeal.Facts₀.shapeCasts_S12x4096x64_S2x12x2048x64,
    fun _ => constant (F := Ideal) Cert.KernelIdeal.S_ .f32 0x00000000#32, ?_, ?_⟩
  · exact (θ_run _ _ _).mono (fun r h c => h c) (Cert.Knn.run m g)
  · refine (θ_run _ _ _).mono (fun r h c => ⟨(h c).1.trans ?_, (h c).2.1, (h c).2.2⟩) (Cert.ReferenceIdeal.Value.run m' g')
    obtain ⟨h0, h1, h2, h3, h4, h5, h6, h7⟩ := ha c
    rw [Cert.Knn.res_eq, h1, h4, h5, h6, h7]
    exact (Cert.Knn.out_eq m c fun H R => Cert.Knn.untied_ranked _ _ _ _ _ _ _ _ (hp c) _ rfl H R).symm

/-- All of the claims. -/
theorem claim : Cert.Claim := ⟨Cert.Kernel.Gen.facts, Cert.KernelIdeal.Gen.facts, Cert.ReferenceIdeal.Gen.facts, Cert.Knn.pre_facts,
  frame_kernel, frame_ideal, fun m g _ => frame_ideal m g trivial, frame_reference, fun m g _ => frame_reference m g trivial, named, equal⟩

end Cert.Proof

end
